-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_p_finite [hPre_p_finite : Cert.Pre_p_finite.Facts] (m : (ℓ : Loc Cert.MergeIdeal.nD Cert.MergeIdeal.τ Cert.MergeIdeal.sig) → Buf (Elt Ideal) ℓ) : Prop :=
  ∀ c : Dev Cert.MergeIdeal.nD,
    (Cert.Pre_p_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_p_finite [hPre_p_finite : Cert.Pre_p_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_p_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_p_finite [hMergeIdeal : Cert.MergeIdeal.Facts] [hPre_p_finite : Cert.Pre_p_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_p_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_p_finite [hMergeRefIdeal : Cert.MergeRefIdeal.Facts] [hPre_p_finite : Cert.Pre_p_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_p_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Ssd_SsdIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)) →
    ∃ (v0 : (c : Dev Cert.FrontIdeal.nD) → Buf (Elt Ideal) ((c.tc : Thread Cert.FrontIdeal.nD Cert.FrontIdeal.τ).loc Cert.FrontIdeal.main_v8_0)) (v1 : (c : Dev Cert.FrontIdeal.nD) → Buf (Elt Ideal) ((c.tc : Thread Cert.FrontIdeal.nD Cert.FrontIdeal.τ).loc Cert.FrontIdeal.main_v8_1)) (v2 : (c : Dev Cert.FrontIdeal.nD) → Buf (Elt Ideal) ((c.tc : Thread Cert.FrontIdeal.nD Cert.FrontIdeal.τ).loc Cert.FrontIdeal.main_v8_2)) (v3 : (c : Dev Cert.FrontIdeal.nD) → Buf (Elt Ideal) ((c.tc : Thread Cert.FrontIdeal.nD Cert.FrontIdeal.τ).loc Cert.FrontIdeal.main_v8_3)) (v4 : (c : Dev Cert.FrontIdeal.nD) → Buf (Elt Ideal) ((c.tc : Thread Cert.FrontIdeal.nD Cert.FrontIdeal.τ).loc Cert.FrontIdeal.main_v8_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v8_0) = v0 c
          ∧ r.2.mem ((c.tc : Thread Cert.FrontIdeal.nD Cert.FrontIdeal.τ).loc Cert.FrontIdeal.main_v8_1) = v1 c
          ∧ r.2.mem ((c.tc : Thread Cert.FrontIdeal.nD Cert.FrontIdeal.τ).loc Cert.FrontIdeal.main_v8_2) = v2 c
          ∧ r.2.mem ((c.tc : Thread Cert.FrontIdeal.nD Cert.FrontIdeal.τ).loc Cert.FrontIdeal.main_v8_3) = v3 c
          ∧ r.2.mem ((c.tc : Thread Cert.FrontIdeal.nD Cert.FrontIdeal.τ).loc Cert.FrontIdeal.main_v8_4) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v22) = v0 c
          ∧ r.2.mem ((c.tc : Thread Cert.FrontRefIdeal.nD Cert.FrontRefIdeal.τ).loc Cert.FrontRefIdeal.main_v23) = v1 c
          ∧ r.2.mem ((c.tc : Thread Cert.FrontRefIdeal.nD Cert.FrontRefIdeal.τ).loc Cert.FrontRefIdeal.main_v27) = v2 c
          ∧ r.2.mem ((c.tc : Thread Cert.FrontRefIdeal.nD Cert.FrontRefIdeal.τ).loc Cert.FrontRefIdeal.main_v25) = v3 c
          ∧ r.2.mem ((c.tc : Thread Cert.FrontRefIdeal.nD Cert.FrontRefIdeal.τ).loc Cert.FrontRefIdeal.main_v26) = v4 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3))

def preserves_Merge_MergeIdeal : Prop :=
  True

def algebraic_MergeIdeal_MergeRefIdeal_pre_p_finite [hMergeIdeal : Cert.MergeIdeal.Facts] [hMergeRefIdeal : Cert.MergeRefIdeal.Facts] [hPre_p_finite : Cert.Pre_p_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_p_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v132) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hSsd : Cert.Ssd.Facts) (hSsdIdeal : Cert.SsdIdeal.Facts) (hFfn : Cert.Ffn.Facts) (hFfnIdeal : Cert.FfnIdeal.Facts) (hFfnRefIdeal : Cert.FfnRefIdeal.Facts) (hFront : Cert.Front.Facts) (hFrontIdeal : Cert.FrontIdeal.Facts) (hFrontRefIdeal : Cert.FrontRefIdeal.Facts) (hMerge : Cert.Merge.Facts) (hMergeIdeal : Cert.MergeIdeal.Facts) (hMergeRefIdeal : Cert.MergeRefIdeal.Facts) (hAda : Cert.Ada.Facts) (hAdaIdeal : Cert.AdaIdeal.Facts) (hAdaRefIdeal : Cert.AdaRefIdeal.Facts) (hPre_p_finite : Cert.Pre_p_finite.Facts),
    quiescent_Ssd (hSsd := hSsd)
    ∧ quiescent_SsdIdeal (hSsdIdeal := hSsdIdeal)
    ∧ quiescent_Ffn (hFfn := hFfn)
    ∧ quiescent_FfnIdeal (hFfnIdeal := hFfnIdeal)
    ∧ quiescent_FfnRefIdeal (hFfnRefIdeal := hFfnRefIdeal)
    ∧ quiescent_Front (hFront := hFront)
    ∧ quiescent_FrontIdeal (hFrontIdeal := hFrontIdeal)
    ∧ quiescent_FrontRefIdeal (hFrontRefIdeal := hFrontRefIdeal)
    ∧ quiescent_Merge (hMerge := hMerge)
    ∧ quiescent_MergeIdeal (hMergeIdeal := hMergeIdeal)
    ∧ quiescent_MergeIdeal_pre_p_finite (hMergeIdeal := hMergeIdeal) (hPre_p_finite := hPre_p_finite)
    ∧ quiescent_MergeRefIdeal (hMergeRefIdeal := hMergeRefIdeal)
    ∧ quiescent_MergeRefIdeal_pre_p_finite (hMergeRefIdeal := hMergeRefIdeal) (hPre_p_finite := hPre_p_finite)
    ∧ quiescent_Ada (hAda := hAda)
    ∧ quiescent_AdaIdeal (hAdaIdeal := hAdaIdeal)
    ∧ quiescent_AdaRefIdeal (hAdaRefIdeal := hAdaRefIdeal)
    ∧ preserves_Ssd_SsdIdeal
    ∧ preserves_Ffn_FfnIdeal
    ∧ algebraic_FfnIdeal_FfnRefIdeal (hFfnIdeal := hFfnIdeal) (hFfnRefIdeal := hFfnRefIdeal)
    ∧ preserves_Front_FrontIdeal
    ∧ algebraic_FrontIdeal_FrontRefIdeal (hFrontIdeal := hFrontIdeal) (hFrontRefIdeal := hFrontRefIdeal)
    ∧ preserves_Merge_MergeIdeal
    ∧ algebraic_MergeIdeal_MergeRefIdeal_pre_p_finite (hMergeIdeal := hMergeIdeal) (hMergeRefIdeal := hMergeRefIdeal) (hPre_p_finite := hPre_p_finite)
    ∧ preserves_Ada_AdaIdeal
    ∧ algebraic_AdaIdeal_AdaRefIdeal (hAdaIdeal := hAdaIdeal) (hAdaRefIdeal := hAdaRefIdeal)
-- ==== Pre_p_finite.lean ====
abbrev S16384x2048 : Shape := ⟨2, ![16384, 2048]⟩
abbrev S16384x1024 : Shape := ⟨2, ![16384, 1024]⟩
abbrev S6x1024 : Shape := ⟨2, ![6, 1024]⟩
abbrev S2048x1024 : Shape := ⟨2, ![2048, 1024]⟩
abbrev S4x256x256 : Shape := ⟨3, ![4, 256, 256]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x2048 .bf16) (main_arg1 : FVec F S16384x1024 .f32) (main_arg2 : FVec F S16384x2048 .f32) (main_arg3 : FVec F S16384x1024 .f32) (main_arg4 : FVec F S6x1024 .f32) (main_arg5 : FVec F S2048x1024 .f32) (main_arg6 : FVec F S4x256x256 .f32) (main_arg7 : FVec F S1024 .f32) (main_arg8 : FVec F S1024x1024 .f32) (main_arg9 : FVec F S1024x1024 .f32) : IVec S16384x1024 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Ssd.lean ====
abbrev S16384x3072 : Shape := ⟨2, ![16384, 3072]⟩
abbrev S16384x128 : Shape := ⟨2, ![16384, 128]⟩
abbrev S16384x2048 : Shape := ⟨2, ![16384, 2048]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1x3072 : Shape := ⟨2, ![1, 3072]⟩
abbrev S_ : Shape := ⟨0, ![]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S128x3072 : Shape := ⟨2, ![128, 3072]⟩
abbrev S128x128 : Shape := ⟨2, ![128, 128]⟩
abbrev S128x2048 : Shape := ⟨2, ![128, 2048]⟩
abbrev S136x3072 : Shape := ⟨2, ![136, 3072]⟩
abbrev S8x3072 : Shape := ⟨2, ![8, 3072]⟩
abbrev S1x512 : Shape := ⟨2, ![1, 512]⟩
abbrev S128x512 : Shape := ⟨2, ![128, 512]⟩
abbrev S128x256 : Shape := ⟨2, ![128, 256]⟩
abbrev S128x1 : Shape := ⟨2, ![128, 1]⟩
abbrev S1x1 : Shape := ⟨2, ![1, 1]⟩
abbrev S512x256 : Shape := ⟨2, ![512, 256]⟩
abbrev S256x256 : Shape := ⟨2, ![256, 256]⟩
abbrev S1x256 : Shape := ⟨2, ![1, 256]⟩

abbrev nBuf : Space → Nat
  | .hbm => 23
  | .vmem => 18
  | .smem => 0
  | _ => 0

abbrev bufTy : (tb : Table) → Fin (tcTables nBuf tb) → BufTy
  | .hbm, ⟨0, _⟩ => ⟨S16384x3072, .f32⟩
  | .hbm, ⟨1, _⟩ => ⟨S16384x128, .f32⟩
  | .hbm, ⟨2, _⟩ => ⟨S16384x2048, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S1x3072, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S32x64, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S16384x2048, .bf16⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S128x2048, .f32⟩
  | .local _ .vmem, ⟨5, _⟩ => ⟨S128x2048, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x2048, .bf16⟩
  | .local _ .vmem, ⟨13, _⟩ => ⟨S128x2048, .bf16⟩
  | .local _ .vmem, ⟨14, _⟩ => ⟨S136x3072, .f32⟩
  | .local _ .vmem, ⟨15, _⟩ => ⟨S128x3072, .f32⟩
  | .local _ .vmem, ⟨16, _⟩ => ⟨S128x2048, .f32⟩
  | .local _ .vmem, ⟨17, _⟩ => ⟨S128x2048, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Ffn.lean ====
abbrev S16384x1024 : Shape := ⟨2, ![16384, 1024]⟩
abbrev S6x1024 : Shape := ⟨2, ![6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024x2816 : Shape := ⟨2, ![1024, 2816]⟩
abbrev S1x2816 : Shape := ⟨2, ![1, 2816]⟩
abbrev S256x1024 : Shape := ⟨2, ![256, 1024]⟩
abbrev S264x2816 : Shape := ⟨2, ![264, 2816]⟩
abbrev S8x2816 : Shape := ⟨2, ![8, 2816]⟩
abbrev S256 : Shape := ⟨1, ![256]⟩
abbrev S256x1 : Shape := ⟨2, ![256, 1]⟩
abbrev S256x2816 : Shape := ⟨2, ![256, 2816]⟩

abbrev nBuf : Space → Nat
  | .hbm => 16
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024x5632, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S6x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S264x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16384x1024 : Shape := ⟨2, ![16384, 1024]⟩
abbrev S6x1024 : Shape := ⟨2, ![6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S16386x2816 : Shape := ⟨2, ![16386, 2816]⟩
abbrev S1x2816 : Shape := ⟨2, ![1, 2816]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x5632, .f32⟩
  | .hbm, ⟨35, _⟩ => ⟨S16384x2816, .f32⟩
  | .hbm, ⟨36, _⟩ => ⟨S16384x2816, .f32⟩
  | .hbm, ⟨37, _⟩ => ⟨S_, .i32⟩
  | .hbm, ⟨38, _⟩ => ⟨S_, .f32⟩
  | .hbm, ⟨39, _⟩ => ⟨S16386x2816, .f32⟩
  | .hbm, ⟨40, _⟩ => ⟨S1x2816, .f32⟩
  | .hbm, ⟨41, _⟩ => ⟨S2816, .f32⟩
  | .hbm, ⟨42, _⟩ => ⟨S16384x2816, .f32⟩
  | .hbm, ⟨43, _⟩ => ⟨S1x2816, .f32⟩
  | .hbm, ⟨44, _⟩ => ⟨S16384x2816, .f32⟩
  | .hbm, ⟨45, _⟩ => ⟨S16384x2816, .f32⟩
  | .hbm, ⟨46, _⟩ => ⟨S1x2816, .f32⟩
  | .hbm, ⟨47, _⟩ => ⟨S16384x2816, .f32⟩
  | .hbm, ⟨48, _⟩ => ⟨S16384x2816, .f32⟩
  | .hbm, ⟨49, _⟩ => ⟨S1x2816, .f32⟩
  | .hbm, ⟨50, _⟩ => ⟨S2816, .f32⟩
  | .hbm, ⟨51, _⟩ => ⟨S16384x2816, .f32⟩
  | .hbm, ⟨52, _⟩ => ⟨S1x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S1x2816, .f32⟩
  | .hbm, ⟨57, _⟩ => ⟨S2816, .f32⟩
  | .hbm, ⟨58, _⟩ => ⟨S16384x2816, .f32⟩
  | .hbm, ⟨59, _⟩ => ⟨S1x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S_, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S16384x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_cst_5 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Front.lean ====
abbrev S16384x1024 : Shape := ⟨2, ![16384, 1024]⟩
abbrev S6x1024 : Shape := ⟨2, ![6, 1024]⟩
abbrev S1024 : Shape := ⟨1, ![1024]⟩
abbrev S1024x8224 : Shape := ⟨2, ![1024, 8224]⟩
abbrev S1024x2048 : Shape := ⟨2, ![1024, 2048]⟩
abbrev S1024x3072 : Shape := ⟨2, ![1024, 3072]⟩
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S16384x2048 : Shape := ⟨2, ![16384, 2048]⟩
abbrev S16384x3072 : Shape := ⟨2, ![16384, 3072]⟩
abbrev S16384x128 : Shape := ⟨2, ![16384, 128]⟩
abbrev S256x1024 : Shape := ⟨2, ![256, 1024]⟩
abbrev S256x2048 : Shape := ⟨2, ![256, 2048]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩

abbrev nBuf : Space → Nat
  | .hbm => 19
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024, .f32⟩
  | .hbm, ⟨3, _⟩ => ⟨S1024x8224, .f32⟩
  | .hbm, ⟨4, _⟩ => ⟨S1024x8224, .bf16⟩
  | .hbm, ⟨5, _⟩ => ⟨S1024x2048, .bf16⟩
  | .hbm, ⟨6, _⟩ => ⟨S1024x3072, .bf16⟩
  | .hbm, ⟨7, _⟩ => ⟨S1024x1024, .bf16⟩
  | .hbm, ⟨8, _⟩ => ⟨S1024x2048, .bf16⟩
  | .hbm, ⟨9, _⟩ => ⟨S1024x32, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S1x1024, .f32⟩
  | .hbm, ⟨14, _⟩ => ⟨S16384x2048, .f32⟩
  | .hbm, ⟨15, _⟩ => ⟨S16384x3072, .f32⟩
  | .hbm, ⟨16, _⟩ => ⟨S16384x128, .f32⟩
  | .hbm, ⟨17, _⟩ => ⟨S16384x1024, .f32⟩
  | .hbm, ⟨18, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S6x1024, .f32⟩
  | .local _ .vmem, ⟨3, _⟩ => ⟨S1x1024, .f32⟩
  | .local _ .vmem, ⟨4, _⟩ => ⟨S1024x2048, .bf16⟩
  | .local _ .vmem, ⟨5, _⟩ => ⟨S1024x3072, .bf16⟩
  | .local _ .vmem, ⟨6, _⟩ => ⟨S1024x128, .bf16⟩
  | .local _ .vmem, ⟨7, _⟩ => ⟨S1024x1024, .bf16⟩
  | .local _ .vmem, ⟨8, _⟩ => ⟨S1024x2048, .bf16⟩
  | .local _ .vmem, ⟨9, _⟩ => ⟨S256x2048, .f32⟩
  | .local _ .vmem, ⟨10, _⟩ => ⟨S256x2048, .f32⟩
  | .local _ .vmem, ⟨11, _⟩ => ⟨S256x3072, .f32⟩
  | .local _ .vmem, ⟨12, _⟩ => ⟨S256x3072, .f32⟩
  | .local _ .vmem, ⟨13, _⟩ => ⟨S256x128, .f32⟩
  | .local _ .vmem, ⟨14, _⟩ => ⟨S256x128, .f32⟩
  | .local _ .vmem, ⟨15, _⟩ => ⟨S256x1024, .f32⟩
  | .local _ .vmem, ⟨16, _⟩ => ⟨S256x1024, .f32⟩
  | .local _ .vmem, ⟨17, _⟩ => ⟨S256x2048, .f32⟩
  | .local _ .vmem, ⟨18, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FrontRefIdeal.lean ====
abbrev S16384x1024 : Shape := ⟨2, ![16384, 1024]⟩
abbrev S6x1024 : Shape := ⟨2, ![6, 1024]⟩
abbrev S1024 : Shape := ⟨1, ![1024]⟩
abbrev S1024x8224 : Shape := ⟨2, ![1024, 8224]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x8224 : Shape := ⟨2, ![16384, 8224]⟩
abbrev S16384x2048 : Shape := ⟨2, ![16384, 2048]⟩
abbrev S16384x3072 : Shape := ⟨2, ![16384, 3072]⟩
abbrev S16384x32 : Shape := ⟨2, ![16384, 32]⟩
abbrev S16384x128 : Shape := ⟨2, ![16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024, .f32⟩
  | .hbm, ⟨3, _⟩ => ⟨S1024x8224, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x8224, .f32⟩
  | .hbm, ⟨30, _⟩ => ⟨S16384x2048, .f32⟩
  | .hbm, ⟨31, _⟩ => ⟨S16384x3072, .f32⟩
  | .hbm, ⟨32, _⟩ => ⟨S16384x32, .f32⟩
  | .hbm, ⟨33, _⟩ => ⟨S16384x1024, .f32⟩
  | .hbm, ⟨34, _⟩ => ⟨S16384x2048, .f32⟩
  | .hbm, ⟨35, _⟩ => ⟨S_, .i32⟩
  | .hbm, ⟨36, _⟩ => ⟨S_, .f32⟩
  | .hbm, ⟨37, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S6x1024 : Shape := ⟨2, ![6, 1024]⟩
abbrev S2048x1024 : Shape := ⟨2, ![2048, 1024]⟩
abbrev S4x256x256 : Shape := ⟨3, ![4, 256, 256]⟩
abbrev S1024 : Shape := ⟨1, ![1024]⟩
abbrev S1024x1024 : Shape := ⟨2, ![1024, 1024]⟩
abbrev S1x1024 : Shape := ⟨2, ![1, 1024]⟩
abbrev S256x2048 : Shape := ⟨2, ![256, 2048]⟩
abbrev S256x1024 : Shape := ⟨2, ![256, 1024]⟩
abbrev S272x1024 : Shape := ⟨2, ![272, 1024]⟩
abbrev S16x1024 : Shape := ⟨2, ![16, 1024]⟩
abbrev S256x1 : Shape := ⟨2, ![256, 1]⟩
abbrev S272x256 : Shape := ⟨2, ![272, 256]⟩
abbrev S256x256 : Shape := ⟨2, ![256, 256]⟩
abbrev S1x256x256 : Shape := ⟨3, ![1, 256, 256]⟩

abbrev nBuf : Space → Nat
  | .hbm => 16
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S16384x2048, .f32⟩
  | .hbm, ⟨3, _⟩ => ⟨S16384x1024, .f32⟩
  | .hbm, ⟨4, _⟩ => ⟨S6x1024, .f32⟩
  | .hbm, ⟨5, _⟩ => ⟨S2048x1024, .f32⟩
  | .hbm, ⟨6, _⟩ => ⟨S4x256x256, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S2048x1024, .bf16⟩
  | .hbm, ⟨11, _⟩ => ⟨S4x256x256, .bf16⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S16384x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S6x1024, .f32⟩
  | .local _ .vmem, ⟨9, _⟩ => ⟨S2048x1024, .bf16⟩
  | .local _ .vmem, ⟨10, _⟩ => ⟨S4x256x256, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S272x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x2048 : Shape := ⟨2, ![16384, 2048]⟩
abbrev S16384x1024 : Shape := ⟨2, ![16384, 1024]⟩
abbrev S6x1024 : Shape := ⟨2, ![6, 1024]⟩
abbrev S2048x1024 : Shape := ⟨2, ![2048, 1024]⟩
abbrev S4x256x256 : Shape := ⟨3, ![4, 256, 256]⟩
abbrev S1024 : Shape := ⟨1, ![1024]⟩
abbrev S1024x1024 : Shape := ⟨2, ![1024, 1024]⟩
abbrev S16384x4x256 : Shape := ⟨3, ![16384, 4, 256]⟩
abbrev S_ : Shape := ⟨0, ![]⟩
abbrev S16385x1024 : Shape := ⟨2, ![16385, 1024]⟩
abbrev S16385x4x256 : Shape := ⟨3, ![16385, 4, 256]⟩
abbrev S16384 : Shape := ⟨1, ![16384]⟩
abbrev S16385x1x256 : Shape := ⟨3, ![16385, 1, 256]⟩
abbrev S16385x256 : Shape := ⟨2, ![16385, 256]⟩
abbrev S16384x256 : Shape := ⟨2, ![16384, 256]⟩
abbrev S16384x1 : Shape := ⟨2, ![16384, 1]⟩
abbrev S16384x1x256 : Shape := ⟨3, ![16384, 1, 256]⟩
abbrev S4x256x16384 : Shape := ⟨3, ![4, 256, 16384]⟩
abbrev S1x1024 : Shape := ⟨2, ![1, 1024]⟩

abbrev nBuf : Space → Nat
  | .hbm => 170
  | .vmem => 0
  | .smem => 0
  | _ => 0

abbrev hbmTy0_0 (i : Nat) : BufTy := match i % 128 with
  | 0 => ⟨S16384x2048, .bf16⟩
  | 1 => ⟨S16384x1024, .f32⟩
  | 2 => ⟨S16384x2048, .f32⟩
  | 3 => ⟨S16384x1024, .f32⟩
  | 4 => ⟨S6x1024, .f32⟩
  | 5 => ⟨S2048x1024, .f32⟩
  | 6 => ⟨S4x256x256, .f32⟩
  | 7 => ⟨S1024, .f32⟩
  | 8 => ⟨S1024x1024, .f32⟩
  | 9 => ⟨S1024x1024, .f32⟩
  | 10 => ⟨S16384x2048, .f32⟩
  | 11 => ⟨S16384x1024, .f32⟩
  | 12 => ⟨S16384x4x256, .f32⟩
  | 13 => ⟨S_, .f32⟩
  | 14 => ⟨S_, .f32⟩
  | 15 => ⟨S16384x1024, .f32⟩
  | 16 => ⟨S_, .i32⟩
  | 17 => ⟨S_, .f32⟩
  | 18 => ⟨S16385x1024, .f32⟩
  | 19 => ⟨S16385x4x256, .f32⟩
  | 20 => ⟨S16384, .i32⟩
  | 21 => ⟨S_, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S16385x1x256, .f32⟩
  | 31 => ⟨S16385x256, .f32⟩
  | 32 => ⟨S16384x256, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S16384x256, .f32⟩
  | 42 => ⟨S16384x256, .f32⟩
  | 43 => ⟨S_, .i32⟩
  | 44 => ⟨S16384, .i32⟩
  | 45 => ⟨S16384, .i32⟩
  | 46 => ⟨S16384, .f32⟩
  | 47 => ⟨S16384x1, .f32⟩
  | 48 => ⟨S16384x256, .f32⟩
  | 49 => ⟨S16384x256, .f32⟩
  | 50 => ⟨S16384x1x256, .f32⟩
  | 51 => ⟨S16384x256, .f32⟩
  | 52 => ⟨S16384x256, .f32⟩
  | 53 => ⟨S_, .i32⟩
  | 54 => ⟨S16384, .i32⟩
  | 55 => ⟨S16384, .i32⟩
  | 56 => ⟨S_, .i32⟩
  | 57 => ⟨S16384, .i32⟩
  | 58 => ⟨S16384, .i32⟩
  | 59 => ⟨S16385x1x256, .f32⟩
  | 60 => ⟨S16385x256, .f32⟩
  | 61 => ⟨S16384x256, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S16384x256, .f32⟩
  | 71 => ⟨S16384x256, .f32⟩
  | 72 => ⟨S_, .i32⟩
  | 73 => ⟨S16384, .i32⟩
  | 74 => ⟨S16384, .i32⟩
  | 75 => ⟨S16384, .f32⟩
  | 76 => ⟨S16384x1, .f32⟩
  | 77 => ⟨S16384x256, .f32⟩
  | 78 => ⟨S16384x256, .f32⟩
  | 79 => ⟨S16384x1x256, .f32⟩
  | 80 => ⟨S16384x256, .f32⟩
  | 81 => ⟨S16384x256, .f32⟩
  | 82 => ⟨S_, .i32⟩
  | 83 => ⟨S16384, .i32⟩
  | 84 => ⟨S16384, .i32⟩
  | 85 => ⟨S_, .i32⟩
  | 86 => ⟨S16384, .i32⟩
  | 87 => ⟨S16384, .i32⟩
  | 88 => ⟨S16385x1x256, .f32⟩
  | 89 => ⟨S16385x256, .f32⟩
  | 90 => ⟨S16384x256, .f32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S16384x256, .f32⟩
  | 100 => ⟨S16384x256, .f32⟩
  | 101 => ⟨S_, .i32⟩
  | 102 => ⟨S16384, .i32⟩
  | 103 => ⟨S16384, .i32⟩
  | 104 => ⟨S16384, .f32⟩
  | 105 => ⟨S16384x1, .f32⟩
  | 106 => ⟨S16384x256, .f32⟩
  | 107 => ⟨S16384x256, .f32⟩
  | 108 => ⟨S16384x1x256, .f32⟩
  | 109 => ⟨S16384x256, .f32⟩
  | 110 => ⟨S16384x256, .f32⟩
  | 111 => ⟨S_, .i32⟩
  | 112 => ⟨S16384, .i32⟩
  | 113 => ⟨S16384, .i32⟩
  | 114 => ⟨S_, .i32⟩
  | 115 => ⟨S16384, .i32⟩
  | 116 => ⟨S16384, .i32⟩
  | 117 => ⟨S16385x1x256, .f32⟩
  | 118 => ⟨S16385x256, .f32⟩
  | 119 => ⟨S16384x256, .f32⟩
  | 120 => ⟨S_, .i32⟩
  | 121 => ⟨S16384, .i32⟩
  | 122 => ⟨S16384, .i1⟩
  | 123 => ⟨S_, .i32⟩
  | 124 => ⟨S16384, .i32⟩
  | 125 => ⟨S16384, .i32⟩
  | 126 => ⟨S16384, .i32⟩
  | 127 => ⟨S16384x1, .i32⟩
  | _ => ⟨S16384x2048, .bf16⟩

abbrev hbmTy0_1 (i : Nat) : BufTy := match i % 128 with
  | 0 => ⟨S16384x256, .f32⟩
  | 1 => ⟨S16384x256, .f32⟩
  | 2 => ⟨S_, .i32⟩
  | 3 => ⟨S16384, .i32⟩
  | 4 => ⟨S16384, .i32⟩
  | 5 => ⟨S16384, .f32⟩
  | 6 => ⟨S16384x1, .f32⟩
  | 7 => ⟨S16384x256, .f32⟩
  | 8 => ⟨S16384x256, .f32⟩
  | 9 => ⟨S16384x1x256, .f32⟩
  | 10 => ⟨S16384x256, .f32⟩
  | 11 => ⟨S16384x256, .f32⟩
  | 12 => ⟨S16384x1x256, .f32⟩
  | 13 => ⟨S16384x1x256, .f32⟩
  | 14 => ⟨S16384x1x256, .f32⟩
  | 15 => ⟨S16384x1x256, .f32⟩
  | 16 => ⟨S16384x4x256, .f32⟩
  | 17 => ⟨S4x256x16384, .f32⟩
  | 18 => ⟨S16384x4x256, .f32⟩
  | 19 => ⟨S16384x1024, .f32⟩
  | 20 => ⟨S1x1024, .f32⟩
  | 21 => ⟨S16384x1024, .f32⟩
  | 22 => ⟨S16384x1024, .f32⟩
  | 23 => ⟨S16384x1024, .f32⟩
  | 24 => ⟨S16384x2048, .f32⟩
  | 25 => ⟨S16384x2048, .f32⟩
  | 26 => ⟨S_, .f32⟩
  | 27 => ⟨S16384x2048, .f32⟩
  | 28 => ⟨S16384x2048, .f32⟩
  | 29 => ⟨S_, .f32⟩
  | 30 => ⟨S16384x2048, .f32⟩
  | 31 => ⟨S16384x2048, .f32⟩
  | 32 => ⟨S16384x1024, .f32⟩
  | 33 => ⟨S16384x1024, .f32⟩
  | 34 => ⟨S1x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_call0_cst : Ref sig .tc := ⟨.hbm, 13, rfl⟩
abbrev main_call0_call0_v0 : Ref sig .tc := ⟨.hbm, 14, rfl⟩
abbrev main_v3 : Ref sig .tc := ⟨.hbm, 15, rfl⟩
abbrev main_c : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_18 : Ref sig .tc := ⟨.hbm, 120, rfl⟩
abbrev main_v88 : Ref sig .tc := ⟨.hbm, 121, rfl⟩
abbrev main_v89 : Ref sig .tc := ⟨.hbm, 122, rfl⟩
abbrev main_c_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_20 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst : Ref sig .tc := ⟨.hbm, 154, rfl⟩
abbrev main_v119 : Ref sig .tc := ⟨.hbm, 155, rfl⟩
abbrev main_v120 : Ref sig .tc := ⟨.hbm, 156, rfl⟩
abbrev main_cst_21 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩

abbrev nD : Nat := 1
abbrev τ : Topo := Topo.v7x

variable {F : FTy → Type} [FloatOps F]
-- ==== Ada.lean ====
abbrev S1x1024 : Shape := ⟨2, ![1, 1024]⟩
abbrev S1024x6144 : Shape := ⟨2, ![1024, 6144]⟩
abbrev S6144 : Shape := ⟨1, ![6144]⟩
abbrev S1x6144 : Shape := ⟨2, ![1, 6144]⟩
abbrev S1024x1024 : Shape := ⟨2, ![1024, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S1x6144, .f32⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S1x1024 : Shape := ⟨2, ![1, 1024]⟩
abbrev S1024x6144 : Shape := ⟨2, ![1024, 6144]⟩
abbrev S6144 : Shape := ⟨1, ![6144]⟩
abbrev S_ : Shape := ⟨0, ![]⟩
abbrev S1x6144 : Shape := ⟨2, ![1, 6144]⟩

abbrev nBuf : Space → Nat
  | .hbm => 15
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024x6144, .f32⟩
  | .hbm, ⟨2, _⟩ => ⟨S6144, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x6144, .f32⟩
  | .hbm, ⟨13, _⟩ => ⟨S1x6144, .f32⟩
  | .hbm, ⟨14, _⟩ => ⟨S1x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Blocks.lean ====
/-
  Reading a two-axis buffer that was stored block by block, at one row and column.

  A block is a unit-stride rectangle at an offset `(o, q)`. An element inside the newest block is that block's own
  element; outside it the older blocks, or the earlier contents, are read.
-/
module

public import Idealize.ShloMosaic.Lib.Pipeline.ValueKit
public import Idealize.ShloMosaic.Lib.WritesUnit

@[expose] public section

noncomputable section

open Idealize.ShloMosaic Idealize.ShloMosaic.TcCoe Idealize.SL.Sem

namespace Cert.Blocks

variable {Val : EltTy → Type} [∀ e, Nonempty (Val e)] {e : EltTy} {H D W E o q : ℕ}

/-- Inside the newest block. -/
theorem canon_in (inb : ∀ a : Fin 2, (![o, q] : Fin 2 → ℕ) a + (![W, E] : Fin 2 → ℕ) a ≤ (⟨2, ![H, D]⟩ : Shape).size a)
    (w : (⟨2, ![W, E]⟩ : Shape).Idx → Val e) (L : List (View.Piece Val (⟨2, ![H, D]⟩ : Shape) e))
    (r : Fin H) (l : Fin D) (r' : Fin W) (l' : Fin E) (hr : r.val = o + r'.val) (hl : l.val = q + l'.val) :
    View.canon ((⟨Rect.unit (s := ⟨2, ![H, D]⟩) ![o, q] ![W, E] inb, w⟩ : View.Piece Val (⟨2, ![H, D]⟩ : Shape) e) :: L) (ix2 r l)
      = w (ix2 r' l') := by
  have hy : (Rect.unit (s := ⟨2, ![H, D]⟩) ![o, q] ![W, E] inb).emb (ix2 r' l') = (ix2 r l : (⟨2, ![H, D]⟩ : Shape).Idx) :=
    funext fun a => Fin.ext (by
      fin_cases a
      · show o + 1 * r'.val = r.val; omega
      · show q + 1 * l'.val = l.val; omega)
  rw [← hy]
  exact View.canon_cons_emb (Rect.unit (s := ⟨2, ![H, D]⟩) ![o, q] ![W, E] inb) w L (ix2 r' l')

/-- Above or below the newest block. -/
theorem canon_out (inb : ∀ a : Fin 2, (![o, q] : Fin 2 → ℕ) a + (![W, E] : Fin 2 → ℕ) a ≤ (⟨2, ![H, D]⟩ : Shape).size a)
    (w : (⟨2, ![W, E]⟩ : Shape).Idx → Val e) (L : List (View.Piece Val (⟨2, ![H, D]⟩ : Shape) e))
    (r : Fin H) (l : Fin D) (h : r.val < o ∨ o + W ≤ r.val) :
    View.canon ((⟨Rect.unit (s := ⟨2, ![H, D]⟩) ![o, q] ![W, E] inb, w⟩ : View.Piece Val (⟨2, ![H, D]⟩ : Shape) e) :: L) (ix2 r l)
      = View.canon L (ix2 r l) :=
  View.canon_cons_of_not_mem _ L fun hm => by
    have h0 := (Rect.mem_set_unit (inb := inb)).mp hm (0 : Fin 2)
    have h1 : o ≤ r.val ∧ r.val < o + W := h0
    omega

/-- Left or right of the newest block. -/
theorem canon_out_col (inb : ∀ a : Fin 2, (![o, q] : Fin 2 → ℕ) a + (![W, E] : Fin 2 → ℕ) a ≤ (⟨2, ![H, D]⟩ : Shape).size a)
    (w : (⟨2, ![W, E]⟩ : Shape).Idx → Val e) (L : List (View.Piece Val (⟨2, ![H, D]⟩ : Shape) e))
    (r : Fin H) (l : Fin D) (h : l.val < q ∨ q + E ≤ l.val) :
    View.canon ((⟨Rect.unit (s := ⟨2, ![H, D]⟩) ![o, q] ![W, E] inb, w⟩ : View.Piece Val (⟨2, ![H, D]⟩ : Shape) e) :: L) (ix2 r l)
      = View.canon L (ix2 r l) :=
  View.canon_cons_of_not_mem _ L fun hm => by
    have h0 := (Rect.mem_set_unit (inb := inb)).mp hm (1 : Fin 2)
    have h1 : q ≤ l.val ∧ l.val < q + E := h0
    omega

/-- Inside the newest block of full height, by its column alone. -/
theorem canon_col (inb : ∀ a : Fin 2, (![0, q] : Fin 2 → ℕ) a + (![H, E] : Fin 2 → ℕ) a ≤ (⟨2, ![H, D]⟩ : Shape).size a)
    (w : (⟨2, ![H, E]⟩ : Shape).Idx → Val e) (L : List (View.Piece Val (⟨2, ![H, D]⟩ : Shape) e))
    (r : Fin H) (l : Fin D) (h0 : q ≤ l.val) (h1 : l.val < q + E) :
    View.canon ((⟨Rect.unit (s := ⟨2, ![H, D]⟩) ![0, q] ![H, E] inb, w⟩ : View.Piece Val (⟨2, ![H, D]⟩ : Shape) e) :: L) (ix2 r l)
      = w (ix2 r ⟨l.val - q, by omega⟩) :=
  canon_in inb w L r l r ⟨l.val - q, by omega⟩ (Nat.zero_add _).symm (by show l.val = q + (l.val - q); omega)

/-- A load of a block back from the stores is the stores' contents at the shifted index. -/
theorem readCov_at {sig : RefSig} {κ : Kind} {sp : Space} (v : View sig κ sp (⟨2, ![H, D]⟩ : Shape) e)
    (inb : ∀ a : Fin 2, (![o, q] : Fin 2 → ℕ) a + (![W, E] : Fin 2 → ℕ) a ≤ (⟨2, ![H, D]⟩ : Shape).size a)
    (L : List (View.Piece Val (⟨2, ![H, D]⟩ : Shape) e))
    (r : Fin H) (l : Fin D) (r' : Fin W) (l' : Fin E) (hr : r.val = o + r'.val) (hl : l.val = q + l'.val) :
    v.readCov L (Rect.unit (s := ⟨2, ![H, D]⟩) ![o, q] ![W, E] inb).toLoadRect (ix2 r' l') = View.canon L (ix2 r l) := by
  rw [View.readCov_eq_canon']
  have hy : (Rect.unit (s := ⟨2, ![H, D]⟩) ![o, q] ![W, E] inb).toLoadRect.idx (ix2 r' l') = (ix2 r l : (⟨2, ![H, D]⟩ : Shape).Idx) :=
    funext fun a => Fin.ext (by
      fin_cases a
      · show o + 1 * r'.val = r.val; omega
      · show q + 1 * l'.val = l.val; omega)
  exact congrArg (View.canon L) hy

/-- A block of a function, at one element. -/
theorem ld_at (inb : ∀ a : Fin 2, (![o, q] : Fin 2 → ℕ) a + (![W, E] : Fin 2 → ℕ) a ≤ (⟨2, ![H, D]⟩ : Shape).size a)
    (x : (⟨2, ![H, D]⟩ : Shape).Idx → Val e)
    (r : Fin H) (l : Fin D) (r' : Fin W) (l' : Fin E) (hr : r.val = o + r'.val) (hl : l.val = q + l'.val) :
    View.ld x (Rect.unit (s := ⟨2, ![H, D]⟩) ![o, q] ![W, E] inb) (ix2 r' l') = x (ix2 r l) := by
  have hy : (Rect.unit (s := ⟨2, ![H, D]⟩) ![o, q] ![W, E] inb).emb (ix2 r' l') = (ix2 r l : (⟨2, ![H, D]⟩ : Shape).Idx) :=
    funext fun a => Fin.ext (by
      fin_cases a
      · show o + 1 * r'.val = r.val; omega
      · show q + 1 * l'.val = l.val; omega)
  exact congrArg x hy

variable {sig : RefSig} {κ : Kind} {sp : Space} (v : View sig κ sp (⟨2, ![H, D]⟩ : Shape) e) (f : v.ty.Contents Val)

/-- The contents after stores over earlier contents, inside the newest block. -/
theorem read_in (inb : ∀ a : Fin 2, (![o, q] : Fin 2 → ℕ) a + (![W, E] : Fin 2 → ℕ) a ≤ (⟨2, ![H, D]⟩ : Shape).size a)
    (w : (⟨2, ![W, E]⟩ : Shape).Idx → Val e) (L : List (View.Piece Val (⟨2, ![H, D]⟩ : Shape) e))
    (r : Fin H) (l : Fin D) (r' : Fin W) (l' : Fin E) (hr : r.val = o + r'.val) (hl : l.val = q + l'.val) :
    v.read Val (v.writes Val f ((⟨Rect.unit (s := ⟨2, ![H, D]⟩) ![o, q] ![W, E] inb, w⟩ : View.Piece Val (⟨2, ![H, D]⟩ : Shape) e) :: L)) (ix2 r l)
      = w (ix2 r' l') :=
  View.read_writes_cons_unit_of_mem v f inb w L (ix2 r l) (ix2 r' l') rfl
    (Fin.forall_fin_two.mpr ⟨hr, hl⟩)

/-- The contents after stores over earlier contents, above or below the newest block. -/
theorem read_out (inb : ∀ a : Fin 2, (![o, q] : Fin 2 → ℕ) a + (![W, E] : Fin 2 → ℕ) a ≤ (⟨2, ![H, D]⟩ : Shape).size a)
    (w : (⟨2, ![W, E]⟩ : Shape).Idx → Val e) (L : List (View.Piece Val (⟨2, ![H, D]⟩ : Shape) e))
    (r : Fin H) (l : Fin D) (h : r.val < o ∨ o + W ≤ r.val) :
    v.read Val (v.writes Val f ((⟨Rect.unit (s := ⟨2, ![H, D]⟩) ![o, q] ![W, E] inb, w⟩ : View.Piece Val (⟨2, ![H, D]⟩ : Shape) e) :: L)) (ix2 r l)
      = v.read Val (v.writes Val f L) (ix2 r l) :=
  View.read_writes_cons_unit_of_not_mem v f inb w L (ix2 r l) rfl 0 h

/-- A load of a block back, as a load from the contents the stores leave. -/
theorem readCov_ld {sig : RefSig} {κ : Kind} {sp : Space} {s : Shape} (v : View sig κ sp s e) (L : List (View.Piece Val s e)) (R : Rect s) :
    v.readCov L R.toLoadRect = View.ld (View.canon L) R := by
  rw [View.readCov_eq_canon']

/-- A load of a block from a buffer's contents, as a block. -/
def ldq (inb : ∀ a : Fin 2, (![o, q] : Fin 2 → ℕ) a + (![W, E] : Fin 2 → ℕ) a ≤ (⟨2, ![H, D]⟩ : Shape).size a)
    (x : (⟨2, ![H, D]⟩ : Shape).Idx → Val e) : (⟨2, ![W, E]⟩ : Shape).Idx → Val e :=
  View.ld x (Rect.unit (s := ⟨2, ![H, D]⟩) ![o, q] ![W, E] inb)

theorem ld_ldq (inb : ∀ a : Fin 2, (![o, q] : Fin 2 → ℕ) a + (![W, E] : Fin 2 → ℕ) a ≤ (⟨2, ![H, D]⟩ : Shape).size a)
    (x : (⟨2, ![H, D]⟩ : Shape).Idx → Val e) :
    View.ld x (Rect.unit (s := ⟨2, ![H, D]⟩) ![o, q] ![W, E] inb) = ldq inb x := rfl

/-- A load from a buffer's contents, read at the element. -/
theorem ldq_ix (inb : ∀ a : Fin 2, (![o, q] : Fin 2 → ℕ) a + (![W, E] : Fin 2 → ℕ) a ≤ (⟨2, ![H, D]⟩ : Shape).size a)
    (x : (⟨2, ![H, D]⟩ : Shape).Idx → Val e) (r : Fin W) (l : Fin E) :
    ldq inb x (ix2 r l)
      = x (ix2 ⟨o + r.val, lt_of_lt_of_le (Nat.add_lt_add_left r.isLt o) (inb 0)⟩ ⟨q + l.val, lt_of_lt_of_le (Nat.add_lt_add_left l.isLt q) (inb 1)⟩) :=
  ld_at inb x _ _ r l rfl rfl

/-- A load of full height, read at a column of the buffer. -/
theorem ldq_to (inb : ∀ a : Fin 2, (![0, q] : Fin 2 → ℕ) a + (![H, E] : Fin 2 → ℕ) a ≤ (⟨2, ![H, D]⟩ : Shape).size a)
    (x : (⟨2, ![H, D]⟩ : Shape).Idx → Val e) (r : Fin H) (l : Fin E) (l' : Fin D) (h : q + l.val = l'.val) :
    ldq inb x (ix2 r l) = x (ix2 r l') :=
  ld_at inb x _ _ r l (Nat.zero_add _).symm h.symm

end Cert.Blocks

end

end
-- ==== Proof.FfnValue.lean ====
/-
  The values of the gated feed-forward block.

  The kernel takes the rows in tiles of 256. It keeps the gate rows of the tile in a scratch of 264 rows, the last eight
  of the tile before in its first eight rows, so that the three-row causal convolution of a tile reads two rows of the
  tile before. The reference pads two zero rows in front of all gate rows. Row `6 + k + r` of the scratch at point `t` is
  row `256 t + r + k` of the padded gate, for `k = 0, 1, 2`; everything else is row by row.
-/
module

public import proofs.«01_k».proof.Proof.Gen.FfnIdeal.Value
public import proofs.«01_k».proof.Proof.Gen.FfnRefIdeal.Read
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.FfnIdeal.FfnValue

open Cert.FfnIdeal Cert.FfnIdeal.Gen

variable (m : (ℓ : Loc nD τ sig) → Buf (Elt Ideal) ℓ)

/-- The windows' index maps, decided over the grid: the two row-tiled windows move down by one block per point, the
    others stay at the origin. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

abbrev X (c : Dev nD) : FVec Ideal S16384x1024 .f32 := m ((c : Thread nD τ).loc main_arg0)
abbrev Mo (c : Dev nD) : FVec Ideal S6x1024 .f32 := m ((c : Thread nD τ).loc main_arg1)
abbrev Gn (c : Dev nD) : FVec Ideal S1024 .f32 := m ((c : Thread nD τ).loc main_arg2)
abbrev Wi (c : Dev nD) : FVec Ideal S1024x5632 .f32 := m ((c : Thread nD τ).loc main_arg3)
abbrev Cw (c : Dev nD) : FVec Ideal S3x2816 .f32 := m ((c : Thread nD τ).loc main_arg4)
abbrev Cb (c : Dev nD) : FVec Ideal S2816 .f32 := m ((c : Thread nD τ).loc main_arg5)
abbrev Wo (c : Dev nD) : FVec Ideal S2816x1024 .f32 := m ((c : Thread nD τ).loc main_arg6)
abbrev Gf (c : Dev nD) : FVec Ideal S1024 .f32 := m ((c : Thread nD τ).loc main_arg7)

section Elements

/-! The kernel's arithmetic over any blocks whose elements are those of the arguments. -/

variable {x : FVec Ideal S16384x1024 .f32} {mo : FVec Ideal S6x1024 .f32} {gn : FVec Ideal S1024 .f32} {wi : FVec Ideal S1024x5632 .f32} {cw : FVec Ideal S3x2816 .f32} {cb : FVec Ideal S2816 .f32} {wo : FVec Ideal S2816x1024 .f32} {gf : FVec Ideal S1024 .f32}

/-- A normalised and modulated row. -/
theorem row_elem (b0 : FVec Ideal S256x1024 .f32) (b2 b3 b4 : FVec Ideal S1x1024 .f32) (r : Fin 256) (R : Fin 16384)
    (h0 : ∀ y, b0 (ix2 r y) = x (ix2 R y)) (h2 : ∀ y, b2 (ix2 0 y) = gn (ix1 y))
    (h3 : ∀ y, b3 (ix2 0 y) = mo (ix2 3 y)) (h4 : ∀ y, b4 (ix2 0 y) = mo (ix2 4 y)) (y : Fin 1024) :
    k0_pay3 (F := Ideal) b0 b2 b3 b4 (ix2 r y) = Cert.FfnRefIdeal.Read.val_main_v21 (F := Ideal) x mo gn (ix2 R y) := by
  pointwise [k0_pay3, Cert.FfnRefIdeal.Read.val_main_v0, Cert.FfnRefIdeal.Read.val_main_v1, Cert.FfnRefIdeal.Read.val_main_v3, Cert.FfnRefIdeal.Read.val_main_v4, Cert.FfnRefIdeal.Read.val_main_v5, Cert.FfnRefIdeal.Read.val_main_v6, Cert.FfnRefIdeal.Read.val_main_v7, Cert.FfnRefIdeal.Read.val_main_v8, Cert.FfnRefIdeal.Read.val_main_v9, Cert.FfnRefIdeal.Read.val_main_v10, Cert.FfnRefIdeal.Read.val_main_v11, Cert.FfnRefIdeal.Read.val_main_v12, Cert.FfnRefIdeal.Read.val_main_v13, Cert.FfnRefIdeal.Read.val_main_v14, Cert.FfnRefIdeal.Read.val_main_v15, Cert.FfnRefIdeal.Read.val_main_v16, Cert.FfnRefIdeal.Read.val_main_v17, Cert.FfnRefIdeal.Read.val_main_v18, Cert.FfnRefIdeal.Read.val_main_v19, Cert.FfnRefIdeal.Read.val_main_v20, Cert.FfnRefIdeal.Read.val_main_v21, Cert.FfnRefIdeal.Read.val_main_cst, Cert.FfnRefIdeal.Read.val_main_cst_0, Cert.FfnRefIdeal.Read.val_main_cst_1, Cert.FfnRefIdeal.Read.val_main_cst_2]
  simp only [h0, h2, h3, h4]

/-- A gate row. -/
theorem gate_elem (b0 : FVec Ideal S256x1024 .f32) (b2 b3 b4 : FVec Ideal S1x1024 .f32) (w : FVec Ideal S1024x2816 .bf16) (r : Fin 256) (R : Fin 16384)
    (hr : ∀ y, k0_pay3 (F := Ideal) b0 b2 b3 b4 (ix2 r y) = Cert.FfnRefIdeal.Read.val_main_v21 (F := Ideal) x mo gn (ix2 R y))
    (hw : ∀ y (l : Fin 2816), w (ix2 y l) = wi (ix2 y ⟨2816 + l.val, by omega⟩)) (l : Fin 2816) :
    k0_pay4 (F := Ideal) b0 b2 b3 b4 w (ix2 r l) = Cert.FfnRefIdeal.Read.val_main_v24 (F := Ideal) x mo gn wi (ix2 R l) := by
  pointwise [k0_pay4, Cert.FfnRefIdeal.Read.val_main_v24, Cert.FfnRefIdeal.Read.val_main_v22]
  simp only [hr, hw]

/-- The padded gate: two zero rows, then the gate. -/
theorem pad_elem (x : FVec Ideal S16384x1024 .f32) (mo : FVec Ideal S6x1024 .f32) (gn : FVec Ideal S1024 .f32) (wi : FVec Ideal S1024x5632 .f32) (P : Fin 16386) (l : Fin 2816) :
    Cert.FfnRefIdeal.Read.val_main_v25 (F := Ideal) x mo gn wi (ix2 P l) = if h : 2 ≤ P.val then Cert.FfnRefIdeal.Read.val_main_v24 (F := Ideal) x mo gn wi (ix2 ⟨P.val - 2, by omega⟩ l) else 0 := by
  pointwise [Cert.FfnRefIdeal.Read.val_main_v25, Cert.FfnRefIdeal.Read.val_main_call0_v0, Cert.FfnRefIdeal.Read.val_main_c]
  have hP := P.isLt
  by_cases h : 2 ≤ P.val
  · rw [dif_pos ⟨h, by omega⟩, dif_pos h]
  · rw [dif_neg fun h' => h h'.1, dif_neg h]
    show (((0#32 : BitVec 32).toInt : ℝ) : EReal) = 0
    simp

/-- The block's output before the last normalisation. -/
theorem sum_elem (b0 : FVec Ideal S256x1024 .f32) (v : FVec Ideal S256x1024 .bf16) (b6 c0 c1 c2 : FVec Ideal S1x2816 .f32) (u0 u1 u2 : FVec Ideal S256x2816 .f32)
    (wv : FVec Ideal S1024x2816 .bf16) (g2 : FVec Ideal S1x1024 .f32) (wu : FVec Ideal S2816x1024 .bf16) (r : Fin 256) (R : Fin 16384)
    (h0 : ∀ y, b0 (ix2 r y) = x (ix2 R y)) (hv : ∀ y, v (ix2 r y) = Cert.FfnRefIdeal.Read.val_main_v21 (F := Ideal) x mo gn (ix2 R y))
    (h6 : ∀ l, b6 (ix2 0 l) = cb (ix1 l)) (hc0 : ∀ l, c0 (ix2 0 l) = cw (ix2 0 l)) (hc1 : ∀ l, c1 (ix2 0 l) = cw (ix2 1 l)) (hc2 : ∀ l, c2 (ix2 0 l) = cw (ix2 2 l))
    (hu0 : ∀ l, u0 (ix2 r l) = Cert.FfnRefIdeal.Read.val_main_v25 (F := Ideal) x mo gn wi (ix2 ⟨R.val, by omega⟩ l))
    (hu1 : ∀ l, u1 (ix2 r l) = Cert.FfnRefIdeal.Read.val_main_v25 (F := Ideal) x mo gn wi (ix2 ⟨1 + R.val, by omega⟩ l))
    (hu2 : ∀ l, u2 (ix2 r l) = Cert.FfnRefIdeal.Read.val_main_v25 (F := Ideal) x mo gn wi (ix2 ⟨2 + R.val, by omega⟩ l))
    (hw : ∀ y (l : Fin 2816), wv (ix2 y l) = wi (ix2 y ⟨l.val, by omega⟩)) (hg : ∀ y, g2 (ix2 0 y) = mo (ix2 5 y))
    (hwo : ∀ l y, wu (ix2 l y) = wo (ix2 l y)) (y : Fin 1024) :
    k0_pay7 (F := Ideal) b0 v (k0_pay5 (F := Ideal) b6) c0 u0 c1 u1 c2 u2 wv g2 wu (ix2 r y)
      = Cert.FfnRefIdeal.Read.val_main_v54 (F := Ideal) x mo gn wi cw cb wo (ix2 R y) := by
  pointwise [k0_pay7, k0_pay5, Cert.FfnRefIdeal.Read.val_main_v2, Cert.FfnRefIdeal.Read.val_main_v22, Cert.FfnRefIdeal.Read.val_main_v23, Cert.FfnRefIdeal.Read.val_main_v26, Cert.FfnRefIdeal.Read.val_main_v27, Cert.FfnRefIdeal.Read.val_main_v28, Cert.FfnRefIdeal.Read.val_main_v29, Cert.FfnRefIdeal.Read.val_main_v30, Cert.FfnRefIdeal.Read.val_main_v31, Cert.FfnRefIdeal.Read.val_main_v32, Cert.FfnRefIdeal.Read.val_main_v33, Cert.FfnRefIdeal.Read.val_main_v34, Cert.FfnRefIdeal.Read.val_main_v35, Cert.FfnRefIdeal.Read.val_main_v36, Cert.FfnRefIdeal.Read.val_main_v37, Cert.FfnRefIdeal.Read.val_main_v38, Cert.FfnRefIdeal.Read.val_main_v39, Cert.FfnRefIdeal.Read.val_main_v40, Cert.FfnRefIdeal.Read.val_main_v41, Cert.FfnRefIdeal.Read.val_main_v42, Cert.FfnRefIdeal.Read.val_main_v43, Cert.FfnRefIdeal.Read.val_main_v44, Cert.FfnRefIdeal.Read.val_main_v45, Cert.FfnRefIdeal.Read.val_main_v46, Cert.FfnRefIdeal.Read.val_main_v47, Cert.FfnRefIdeal.Read.val_main_v48, Cert.FfnRefIdeal.Read.val_main_v49, Cert.FfnRefIdeal.Read.val_main_v50, Cert.FfnRefIdeal.Read.val_main_v51, Cert.FfnRefIdeal.Read.val_main_v52, Cert.FfnRefIdeal.Read.val_main_v53, Cert.FfnRefIdeal.Read.val_main_v54, Cert.FfnRefIdeal.Read.val_main_call1_v0, Cert.FfnRefIdeal.Read.val_main_call1_v1, Cert.FfnRefIdeal.Read.val_main_call1_v2, Cert.FfnRefIdeal.Read.val_main_call1_v3, Cert.FfnRefIdeal.Read.val_main_call1_v4, Cert.FfnRefIdeal.Read.val_main_call1_v5, Cert.FfnRefIdeal.Read.val_main_call1_cst, Cert.FfnRefIdeal.Read.val_main_call1_cst_0]
  simp only [h0, hv, h6, hc0, hc1, hc2, hu0, hu1, hu2, hw, hg, hwo]
  rfl

/-- The normalised output. -/
theorem out_elem (p q : FVec Ideal S256x1024 .f32) (b8 : FVec Ideal S1x1024 .f32) (r : Fin 256) (R : Fin 16384)
    (hp : ∀ y, p (ix2 r y) = Cert.FfnRefIdeal.Read.val_main_v54 (F := Ideal) x mo gn wi cw cb wo (ix2 R y)) (hq : ∀ y, q (ix2 r y) = p (ix2 r y) * p (ix2 r y))
    (h8 : ∀ y, b8 (ix2 0 y) = gf (ix1 y)) (y : Fin 1024) :
    k0_pay1 (F := Ideal) p q b8 (ix2 r y) = Cert.FfnRefIdeal.Read.val_main_v67 (F := Ideal) x mo gn wi cw cb wo gf (ix2 R y) := by
  pointwise [k0_pay1, Cert.FfnRefIdeal.Read.val_main_v55, Cert.FfnRefIdeal.Read.val_main_v56, Cert.FfnRefIdeal.Read.val_main_v57, Cert.FfnRefIdeal.Read.val_main_v58, Cert.FfnRefIdeal.Read.val_main_v59, Cert.FfnRefIdeal.Read.val_main_v60, Cert.FfnRefIdeal.Read.val_main_v61, Cert.FfnRefIdeal.Read.val_main_v62, Cert.FfnRefIdeal.Read.val_main_v63, Cert.FfnRefIdeal.Read.val_main_v64, Cert.FfnRefIdeal.Read.val_main_v65, Cert.FfnRefIdeal.Read.val_main_v66, Cert.FfnRefIdeal.Read.val_main_v67, Cert.FfnRefIdeal.Read.val_main_cst_3, Cert.FfnRefIdeal.Read.val_main_cst_4, Cert.FfnRefIdeal.Read.val_main_cst_5]
  simp only [hp, hq, h8]

end Elements

/-- The first normalisation gain as the region finds it: the argument as one row. -/
theorem gain_read (c : Dev nD) (y : Fin 1024) : (V m c main_v1 : FVec Ideal S1x1024 .f32) (ix2 0 y) = Gn m c (ix1 y) := by
  dsimp only [V, hostOps0]
  entry_read
  pointwise

/-- The value weights: the leading columns. -/
theorem wv_read (c : Dev nD) (y : Fin 1024) (l : Fin 2816) : (V m c main_v2 : FVec Ideal S1024x2816 .bf16) (ix2 y l) = Wi m c (ix2 y ⟨l.val, by omega⟩) := by
  dsimp only [V, hostOps0]
  entry_read
  pointwise

/-- The gate weights: the trailing columns. -/
theorem wg_read (c : Dev nD) (y : Fin 1024) (l : Fin 2816) : (V m c main_v3 : FVec Ideal S1024x2816 .bf16) (ix2 y l) = Wi m c (ix2 y ⟨2816 + l.val, by omega⟩) := by
  dsimp only [V, hostOps0]
  entry_read
  pointwise

/-- The convolution's bias as one row. -/
theorem cb_read (c : Dev nD) (l : Fin 2816) : (V m c main_v4 : FVec Ideal S1x2816 .f32) (ix2 0 l) = Cb m c (ix1 l) := by
  dsimp only [V, hostOps0]
  entry_read
  pointwise

/-- The output weights. -/
theorem wo_read (c : Dev nD) (l : Fin 2816) (y : Fin 1024) : (V m c main_v5 : FVec Ideal S2816x1024 .bf16) (ix2 l y) = Wo m c (ix2 l y) := by
  dsimp only [V, hostOps0]
  entry_read
  pointwise

/-- The last normalisation gain as one row. -/
theorem gf_read (c : Dev nD) (y : Fin 1024) : (V m c main_v6 : FVec Ideal S1x1024 .f32) (ix2 0 y) = Gf m c (ix1 y) := by
  dsimp only [V, hostOps0]
  entry_read
  pointwise

/-- Row `r` of the tile at point `t`. -/
theorem in0 (c : Dev nD) (t : Fin cfg0.N) (r : Fin 256) (R : Fin 16384) (hR : R.val = 256 * t.val + r.val) (y : Fin 1024) :
    (iblk m c 0 t : FVec Ideal S256x1024 .f32) (ix2 r y) = X m c (ix2 R y) := by
  blk_point [iblk, V, idx t]

/-- The modulation's rows. -/
theorem in1 (c : Dev nD) (t : Fin cfg0.N) (k : Fin 6) (y : Fin 1024) :
    (iblk m c 1 t : FVec Ideal S6x1024 .f32) (ix2 k y) = Mo m c (ix2 k y) := by
  blk_point [iblk, V, idx t]

/-- The convolution's weights. -/
theorem in5 (c : Dev nD) (t : Fin cfg0.N) (k : Fin 3) (l : Fin 2816) :
    (iblk m c 5 t : FVec Ideal S3x2816 .f32) (ix2 k l) = Cw m c (ix2 k l) := by
  blk_point [iblk, V, idx t]

/-- The first gain, held whole at every point. -/
theorem in2 (c : Dev nD) (t : Fin cfg0.N) (y : Fin 1024) : (iblk m c 2 t : FVec Ideal S1x1024 .f32) (ix2 0 y) = Gn m c (ix1 y) := by
  blk_simp [iblk]
  rw [show ((win0_2.blk t).view.emb (ix2 0 y) : S1x1024.Idx) = (ix2 0 y) from by blk_ext [idx t]]
  exact gain_read m c y

/-- The value weights, held whole at every point. -/
theorem in3 (c : Dev nD) (t : Fin cfg0.N) (y : Fin 1024) (l : Fin 2816) : (iblk m c 3 t : FVec Ideal S1024x2816 .bf16) (ix2 y l) = Wi m c (ix2 y ⟨l.val, by omega⟩) := by
  blk_simp [iblk]
  rw [show ((win0_3.blk t).view.emb (ix2 y l) : S1024x2816.Idx) = (ix2 y l) from by blk_ext [idx t]]
  exact wv_read m c y l

/-- The gate weights, held whole at every point. -/
theorem in4 (c : Dev nD) (t : Fin cfg0.N) (y : Fin 1024) (l : Fin 2816) : (iblk m c 4 t : FVec Ideal S1024x2816 .bf16) (ix2 y l) = Wi m c (ix2 y ⟨2816 + l.val, by omega⟩) := by
  blk_simp [iblk]
  rw [show ((win0_4.blk t).view.emb (ix2 y l) : S1024x2816.Idx) = (ix2 y l) from by blk_ext [idx t]]
  exact wg_read m c y l

/-- The bias, held whole at every point. -/
theorem in6 (c : Dev nD) (t : Fin cfg0.N) (l : Fin 2816) : (iblk m c 6 t : FVec Ideal S1x2816 .f32) (ix2 0 l) = Cb m c (ix1 l) := by
  blk_simp [iblk]
  rw [show ((win0_6.blk t).view.emb (ix2 0 l) : S1x2816.Idx) = (ix2 0 l) from by blk_ext [idx t]]
  exact cb_read m c l

/-- The output weights, held whole at every point. -/
theorem in7 (c : Dev nD) (t : Fin cfg0.N) (l : Fin 2816) (y : Fin 1024) : (iblk m c 7 t : FVec Ideal S2816x1024 .bf16) (ix2 l y) = Wo m c (ix2 l y) := by
  blk_simp [iblk]
  rw [show ((win0_7.blk t).view.emb (ix2 l y) : S2816x1024.Idx) = (ix2 l y) from by blk_ext [idx t]]
  exact wo_read m c l y

/-- The last gain, held whole at every point. -/
theorem in8 (c : Dev nD) (t : Fin cfg0.N) (y : Fin 1024) : (iblk m c 8 t : FVec Ideal S1x1024 .f32) (ix2 0 y) = Gf m c (ix1 y) := by
  blk_simp [iblk]
  rw [show ((win0_8.blk t).view.emb (ix2 0 y) : S1x1024.Idx) = (ix2 0 y) from by blk_ext [idx t]]
  exact gf_read m c y

/-- The modulation row `k` as the body loads it. -/
theorem ld1 (c : Dev nD) (t : Fin cfg0.N) (k : Fin 6) (inb : ∀ a : Fin 2, (![k.val, 0] : Fin 2 → ℕ) a + (![1, 1024] : Fin 2 → ℕ) a ≤ S6x1024.size a) (y : Fin 1024) :
    View.ld (iblk m c 1 t) (Rect.unit (s := S6x1024) ![k.val, 0] ![1, 1024] inb) (ix2 0 y) = Mo m c (ix2 k y) :=
  (Blocks.ld_at (H := 6) (D := 1024) (W := 1) (E := 1024) inb (iblk m c 1 t) k y 0 y rfl (Nat.zero_add _).symm).trans (in1 m c t k y)

/-- The convolution's weight row `k` as the body loads it. -/
theorem ld5 (c : Dev nD) (t : Fin cfg0.N) (k : Fin 3) (inb : ∀ a : Fin 2, (![k.val, 0] : Fin 2 → ℕ) a + (![1, 2816] : Fin 2 → ℕ) a ≤ S3x2816.size a) (l : Fin 2816) :
    View.ld (iblk m c 5 t) (Rect.unit (s := S3x2816) ![k.val, 0] ![1, 2816] inb) (ix2 0 l) = Cw m c (ix2 k l) :=
  (Blocks.ld_at (H := 3) (D := 2816) (W := 1) (E := 2816) inb (iblk m c 5 t) k l 0 l rfl (Nat.zero_add _).symm).trans (in5 m c t k l)

/-- The tile's normalised rows. -/
def rowT (c : Dev nD) (t : Fin cfg0.N) : FVec Ideal S256x1024 .bf16 :=
  k0_pay3 (F := Ideal) (iblk m c 0 t) (iblk m c 2 t)
    (View.ld (iblk m c 1 t) (Rect.unit (s := S6x1024) ![3, 0] ![1, 1024] inb_S6x1024_S1x1024_3_0))
    (View.ld (iblk m c 1 t) (Rect.unit (s := S6x1024) ![4, 0] ![1, 1024] inb_S6x1024_S1x1024_4_0))

/-- The tile's gate rows. -/
def gateT (c : Dev nD) (t : Fin cfg0.N) : FVec Ideal S256x2816 .f32 :=
  k0_pay4 (F := Ideal) (iblk m c 0 t) (iblk m c 2 t)
    (View.ld (iblk m c 1 t) (Rect.unit (s := S6x1024) ![3, 0] ![1, 1024] inb_S6x1024_S1x1024_3_0))
    (View.ld (iblk m c 1 t) (Rect.unit (s := S6x1024) ![4, 0] ![1, 1024] inb_S6x1024_S1x1024_4_0)) (iblk m c 4 t)

theorem rowT_elem (c : Dev nD) (t : Fin cfg0.N) (r : Fin 256) (R : Fin 16384) (hR : R.val = 256 * t.val + r.val) (y : Fin 1024) :
    rowT m c t (ix2 r y) = Cert.FfnRefIdeal.Read.val_main_v21 (F := Ideal) (X m c) (Mo m c) (Gn m c) (ix2 R y) :=
  row_elem _ _ _ _ r R (in0 m c t r R hR) (in2 m c t) (ld1 m c t 3 _) (ld1 m c t 4 _) y

theorem gateT_elem (c : Dev nD) (t : Fin cfg0.N) (r : Fin 256) (R : Fin 16384) (hR : R.val = 256 * t.val + r.val) (l : Fin 2816) :
    gateT m c t (ix2 r l) = Cert.FfnRefIdeal.Read.val_main_v24 (F := Ideal) (X m c) (Mo m c) (Gn m c) (Wi m c) (ix2 R l) :=
  gate_elem _ _ _ _ _ r R (rowT_elem m c t r R hR) (in4 m c t) l

/-- What a point leaves in the scratch's first eight rows: the last eight rows of its gate. -/
theorem head (c : Dev nD) (t : Fin cfg0.N) (r : Fin 264) (hr : r.val < 8) (l : Fin 2816) :
    (outsAt0 m c t.val t.isLt).2 (ix2 r l) = gateT m c t (ix2 ⟨248 + r.val, by omega⟩ l) := by
  by_cases h0 : t.val % 64 = 0
  · rw [outsAt0_A m c t h0]; dsimp only; frame_out
    refine (Blocks.canon_in _ _ _ r l ⟨r.val, hr⟩ l (Nat.zero_add _).symm (Nat.zero_add _).symm).trans ?_
    unfold k0_pay6
    simp only [shapeCast_self]
    refine (Blocks.readCov_at _ _ _ ⟨256 + r.val, by omega⟩ l ⟨r.val, hr⟩ l rfl (Nat.zero_add _).symm).trans ?_
    exact Blocks.canon_in _ _ _ _ l ⟨248 + r.val, by omega⟩ l (by show 256 + r.val = 8 + (248 + r.val); omega) (Nat.zero_add _).symm
  · rw [outsAt0_B m c t h0]; dsimp only; frame_out
    refine (Blocks.canon_in _ _ _ r l ⟨r.val, hr⟩ l (Nat.zero_add _).symm (Nat.zero_add _).symm).trans ?_
    unfold k0_pay6
    simp only [shapeCast_self]
    refine (Blocks.readCov_at _ _ _ ⟨256 + r.val, by omega⟩ l ⟨r.val, hr⟩ l rfl (Nat.zero_add _).symm).trans ?_
    exact Blocks.canon_in _ _ _ _ l ⟨248 + r.val, by omega⟩ l (by show 256 + r.val = 8 + (248 + r.val); omega) (Nat.zero_add _).symm

/-- At the first point the scratch is zero rows, then the tile's gate: the padded gate from its first row on. -/
theorem pad_first (c : Dev nD) (t : Fin cfg0.N) (h0 : t.val % 64 = 0) (k : Fin 3)
    (inb : ∀ a : Fin 2, (![6 + k.val, 0] : Fin 2 → ℕ) a + (![256, 2816] : Fin 2 → ℕ) a ≤ S264x2816.size a)
    (r : Fin 256) (P : Fin 16386) (hP : P.val = k.val + (256 * t.val + r.val)) (l : Fin 2816) :
    (View.whole cc0_scratch0).readCov
        [(⟨Rect.unit (s := S264x2816) ![8, 0] ![256, 2816] inb_S264x2816_S256x2816_8_0, gateT m c t⟩ : View.Piece (Elt Ideal) S264x2816 .f32),
          (⟨Rect.unit (s := S264x2816) ![0, 0] ![8, 2816] inb_S264x2816_S8x2816_0_0, k0_pay2 (F := Ideal)⟩ : View.Piece (Elt Ideal) S264x2816 .f32)]
        (Rect.unit (s := S264x2816) ![6 + k.val, 0] ![256, 2816] inb).toLoadRect (ix2 r l)
      = Cert.FfnRefIdeal.Read.val_main_v25 (F := Ideal) (X m c) (Mo m c) (Gn m c) (Wi m c) (ix2 P l) := by
  have ht : t.val < 64 := lt_of_lt_of_eq t.isLt (show cfg0.N = 64 from N_0)
  have hr := r.isLt
  have hk := k.isLt
  refine (Blocks.readCov_at _ _ _ ⟨6 + k.val + r.val, by omega⟩ l r l rfl (Nat.zero_add _).symm).trans ?_
  rw [pad_elem]
  by_cases h : 2 ≤ P.val
  · rw [dif_pos h]
    refine (Blocks.canon_in _ _ _ _ l ⟨P.val - 2, by omega⟩ l (by show 6 + k.val + r.val = 8 + (P.val - 2); omega) (Nat.zero_add _).symm).trans ?_
    exact gateT_elem m c t _ _ (by show P.val - 2 = 256 * t.val + (P.val - 2); omega) l
  · rw [dif_neg h]
    have h8 : 6 + k.val + r.val < 8 := by omega
    refine (Blocks.canon_out (Val := Elt Ideal) (e := .f32) inb_S264x2816_S256x2816_8_0 (gateT m c t) _ ⟨6 + k.val + r.val, by omega⟩ l (Or.inl h8)).trans ?_
    refine (Blocks.canon_in (Val := Elt Ideal) (e := .f32) inb_S264x2816_S8x2816_0_0 (k0_pay2 (F := Ideal)) [] ⟨6 + k.val + r.val, by omega⟩ l ⟨6 + k.val + r.val, h8⟩ l (Nat.zero_add _).symm (Nat.zero_add _).symm).trans ?_
    pointwise [k0_pay2]

/-- At a later point the scratch is the last eight gate rows of the tile before, then the tile's gate. -/
theorem pad_later (c : Dev nD) (t : Fin cfg0.N) (h0 : ¬ t.val % 64 = 0) (k : Fin 3)
    (inb : ∀ a : Fin 2, (![6 + k.val, 0] : Fin 2 → ℕ) a + (![256, 2816] : Fin 2 → ℕ) a ≤ S264x2816.size a)
    (hw : (Memref.whole cc0_scratch0).IsWhole) (hlt : t.val - 1 < cfg0.N)
    (r : Fin 256) (P : Fin 16386) (hP : P.val = k.val + (256 * t.val + r.val)) (l : Fin 2816) :
    View.ld (View.read (Elt Ideal) (View.whole cc0_scratch0)
        ((View.whole cc0_scratch0).writes (Elt Ideal) (hw.unread (outsAt0 m c (t.val - 1) hlt).2) [(⟨Rect.unit (s := S264x2816) ![8, 0] ![256, 2816] inb_S264x2816_S256x2816_8_0, gateT m c t⟩ : View.Piece (Elt Ideal) S264x2816 .f32)]))
        (Rect.unit (s := S264x2816) ![6 + k.val, 0] ![256, 2816] inb) (ix2 r l)
      = Cert.FfnRefIdeal.Read.val_main_v25 (F := Ideal) (X m c) (Mo m c) (Gn m c) (Wi m c) (ix2 P l) := by
  have ht : t.val < 64 := lt_of_lt_of_eq t.isLt (show cfg0.N = 64 from N_0)
  have hr := r.isLt
  have hk := k.isLt
  refine (Blocks.ld_at inb _ ⟨6 + k.val + r.val, by omega⟩ l r l rfl (Nat.zero_add _).symm).trans ?_
  rw [pad_elem, dif_pos (by omega)]
  by_cases h : 8 ≤ 6 + k.val + r.val
  · refine (Blocks.read_in _ _ _ _ _ _ l ⟨6 + k.val + r.val - 8, by omega⟩ l (by show 6 + k.val + r.val = 8 + (6 + k.val + r.val - 8); omega) (Nat.zero_add _).symm).trans ?_
    exact gateT_elem m c t _ _ (by show P.val - 2 = 256 * t.val + (6 + k.val + r.val - 8); omega) l
  · refine (Blocks.read_out _ _ _ _ _ _ l (Or.inl (by show 6 + k.val + r.val < 8; omega))).trans ?_
    refine (congrFun (hw.read_unread (outsAt0 m c (t.val - 1) hlt).2) _).trans ?_
    refine (head m c ⟨t.val - 1, hlt⟩ ⟨6 + k.val + r.val, by omega⟩ (by show 6 + k.val + r.val < 8; omega) l).trans ?_
    exact gateT_elem m c ⟨t.val - 1, hlt⟩ _ _ (by show P.val - 2 = 256 * (t.val - 1) + (248 + (6 + k.val + r.val)); omega) l

/-- The third read of the convolution is the tile's gate itself. -/
theorem pad_own (c : Dev nD) (t : Fin cfg0.N)
    (inb : ∀ a : Fin 2, (![8, 0] : Fin 2 → ℕ) a + (![256, 2816] : Fin 2 → ℕ) a ≤ S264x2816.size a)
    (r : Fin 256) (P : Fin 16386) (hP : P.val = 2 + (256 * t.val + r.val)) (l : Fin 2816) :
    (View.whole cc0_scratch0).readCov [(⟨Rect.unit (s := S264x2816) ![8, 0] ![256, 2816] inb_S264x2816_S256x2816_8_0, gateT m c t⟩ : View.Piece (Elt Ideal) S264x2816 .f32)] (Rect.unit (s := S264x2816) ![8, 0] ![256, 2816] inb).toLoadRect (ix2 r l)
      = Cert.FfnRefIdeal.Read.val_main_v25 (F := Ideal) (X m c) (Mo m c) (Gn m c) (Wi m c) (ix2 P l) := by
  have hr := r.isLt
  refine (Blocks.readCov_at _ _ _ ⟨8 + r.val, by omega⟩ l r l rfl (Nat.zero_add _).symm).trans ?_
  rw [pad_elem, dif_pos (by omega)]
  refine (Blocks.canon_in _ _ _ _ l r l rfl (Nat.zero_add _).symm).trans ?_
  exact gateT_elem m c t _ _ (by show P.val - 2 = 256 * t.val + r.val; omega) l

/-- One output element of a tile, whichever reads of the scratch its convolution takes. -/
theorem elem9 (c : Dev nD) (t : Fin cfg0.N) (r : Fin 256) (y : Fin 1024) (R : Fin 16384) (hR : R.val = 256 * t.val + r.val)
    (u0 u1 u2 : FVec Ideal S256x2816 .f32)
    (hu0 : ∀ (P : Fin 16386) (l : Fin 2816), P.val = 0 + (256 * t.val + r.val) → u0 (ix2 r l) = Cert.FfnRefIdeal.Read.val_main_v25 (F := Ideal) (X m c) (Mo m c) (Gn m c) (Wi m c) (ix2 P l))
    (hu1 : ∀ (P : Fin 16386) (l : Fin 2816), P.val = 1 + (256 * t.val + r.val) → u1 (ix2 r l) = Cert.FfnRefIdeal.Read.val_main_v25 (F := Ideal) (X m c) (Mo m c) (Gn m c) (Wi m c) (ix2 P l))
    (hu2 : ∀ (P : Fin 16386) (l : Fin 2816), P.val = 2 + (256 * t.val + r.val) → u2 (ix2 r l) = Cert.FfnRefIdeal.Read.val_main_v25 (F := Ideal) (X m c) (Mo m c) (Gn m c) (Wi m c) (ix2 P l)) :
    k0_pay1 (F := Ideal)
      (k0_pay7 (F := Ideal) (iblk m c 0 t) (rowT m c t) (k0_pay5 (F := Ideal) (iblk m c 6 t))
        (View.ld (iblk m c 5 t) (Rect.unit (s := S3x2816) ![0, 0] ![1, 2816] inb_S3x2816_S1x2816_0_0)) u0
        (View.ld (iblk m c 5 t) (Rect.unit (s := S3x2816) ![1, 0] ![1, 2816] inb_S3x2816_S1x2816_1_0)) u1
        (View.ld (iblk m c 5 t) (Rect.unit (s := S3x2816) ![2, 0] ![1, 2816] inb_S3x2816_S1x2816_2_0)) u2
        (iblk m c 3 t) (View.ld (iblk m c 1 t) (Rect.unit (s := S6x1024) ![5, 0] ![1, 1024] inb_S6x1024_S1x1024_5_0)) (iblk m c 7 t))
      (k0_pay8 (F := Ideal) (iblk m c 0 t) (rowT m c t) (k0_pay5 (F := Ideal) (iblk m c 6 t))
        (View.ld (iblk m c 5 t) (Rect.unit (s := S3x2816) ![0, 0] ![1, 2816] inb_S3x2816_S1x2816_0_0)) u0
        (View.ld (iblk m c 5 t) (Rect.unit (s := S3x2816) ![1, 0] ![1, 2816] inb_S3x2816_S1x2816_1_0)) u1
        (View.ld (iblk m c 5 t) (Rect.unit (s := S3x2816) ![2, 0] ![1, 2816] inb_S3x2816_S1x2816_2_0)) u2
        (iblk m c 3 t) (View.ld (iblk m c 1 t) (Rect.unit (s := S6x1024) ![5, 0] ![1, 1024] inb_S6x1024_S1x1024_5_0)) (iblk m c 7 t))
      (iblk m c 8 t) (ix2 r y)
      = Cert.FfnRefIdeal.Read.val_main_v67 (F := Ideal) (X m c) (Mo m c) (Gn m c) (Wi m c) (Cw m c) (Cb m c) (Wo m c) (Gf m c) (ix2 R y) :=
  out_elem _ _ _ r R
    (sum_elem _ _ _ _ _ _ _ _ _ _ _ _ r R (in0 m c t r R hR) (rowT_elem m c t r R hR) (in6 m c t)
      (ld5 m c t 0 _) (ld5 m c t 1 _) (ld5 m c t 2 _)
      (fun l => hu0 _ l (by show R.val = _; omega)) (fun l => hu1 _ l (by show 1 + R.val = _; omega))
      (fun l => hu2 _ l (by show 2 + R.val = _; omega))
      (in3 m c t) (ld1 m c t 5 _) (in7 m c t))
    (fun _ => rfl) (in8 m c t) y

/-- The kernel's result after the run. -/
theorem final9 (c : Dev nD) : (dats m 0 c).arrAt 9 (cfgs 0).N
    = Cert.FfnRefIdeal.Read.val_main_v67 (F := Ideal) (X m c) (Mo m c) (Gn m c) (Wi m c) (Cw m c) (Cb m c) (Wo m c) (Gf m c) := by
  refine (dats m 0 c).arrAt_eq_of_covers 9 _ (by decide +kernel) fun t _ y => ?_
  blk_simp
  have hlt := lt_of_lt_of_eq t.isLt (show cfg0.N = 64 from N_0)
  by_cases h0 : t.val % 64 = 0
  · rw [after0_9, outsAt0_A m c t h0]; dsimp only; frame_out
    idx_vars y
    have hr : 256 * t.val + y0.val < 16384 := by have := y0.isLt; omega
    rw [show ((View.whole main_v7).slice (win0_9.rect t)).emb (ix2 y0 y1) = (ix2 ⟨256 * t.val + y0.val, hr⟩ y1 : S16384x1024.Idx) from by
      blk_ext [idx t]]
    exact elem9 m c t y0 y1 _ rfl _ _ _ (fun P l hP => pad_first m c t h0 0 _ y0 P hP l) (fun P l hP => pad_first m c t h0 1 _ y0 P hP l)
      (fun P l hP => pad_first m c t h0 2 _ y0 P hP l)
  · rw [after0_9, outsAt0_B m c t h0]; dsimp only; frame_out
    idx_vars y
    have hr : 256 * t.val + y0.val < 16384 := by have := y0.isLt; omega
    rw [show ((View.whole main_v7).slice (win0_9.rect t)).emb (ix2 y0 y1) = (ix2 ⟨256 * t.val + y0.val, hr⟩ y1 : S16384x1024.Idx) from by
      blk_ext [idx t]]
    exact elem9 m c t y0 y1 _ rfl _ _ _ (fun P l hP => pad_later m c t h0 0 _ _ _ y0 P hP l) (fun P l hP => pad_later m c t h0 1 _ _ _ y0 P hP l)
      (fun P l hP => pad_own m c t _ y0 P hP l)

end Cert.FfnIdeal.FfnValue
end
end
-- ==== Proof.FfnClaim.lean ====
/- The claims about the feed-forward call: the frames of the kernel, its idealization and its reference, and the
   equality of their results over the extended reals (`FfnValue`'s equation read through the two runs). -/
module

public import proofs.«01_k».proof.Defs
public import proofs.«01_k».proof.Proof.FfnValue
public import proofs.«01_k».proof.Proof.Gen.Ffn.Frame
public import proofs.«01_k».proof.Proof.Gen.FfnIdeal.Frame
public import proofs.«01_k».proof.Proof.Gen.FfnRefIdeal.Run
public import Idealize.ShloMosaic.Lib.Claim

@[expose] public section

set_option maxRecDepth 16384

noncomputable section

open Idealize.ShloMosaic Idealize.SL.Sem

namespace Cert.FfnClaim

theorem frame_p : Cert.quiescent_Ffn := fun m ρ _ => Cert.Ffn.Gen.frame m ρ
theorem frame_pi : Cert.quiescent_FfnIdeal := fun m ρ _ => Cert.FfnIdeal.Gen.frame m ρ

/-- The reference has no counters at all; its arguments end unchanged by its run. -/
theorem frame_ri : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

set_option maxHeartbeats 1600000 in
/-- The array the kernel writes is the reference's result. -/
theorem algebraic : Cert.algebraic_FfnIdeal_FfnRefIdeal := by
  pair_intro
  · run_from Cert.FfnIdeal.Gen.run_main m g
  · refine (θ_run Cert.FfnRefIdeal.defs _ _).mono (fun _ h c => ?_) (Cert.FfnRefIdeal.Value.run (F := Ideal) m' g')
    obtain ⟨h9, ha⟩ := h c
    refine ⟨(h9.trans (Cert.FfnRefIdeal.Read.val_main_v67_eq m' c)).trans ?_, ha⟩
    obtain ⟨e0, e1, e2, e3, e4, e5, e6, e7⟩ := hagree c
    rw [e0, e1, e2, e3, e4, e5, e6, e7]
    exact (Cert.FfnIdeal.FfnValue.final9 m c).symm

end Cert.FfnClaim

end

end
-- ==== Proof.FrontValue.lean ====
/-
  The values of the input projections.

  The kernel normalises a tile of 256 rows, modulates it, and multiplies it by five weight matrices; each grid point
  writes one row tile of each of the five results. The reference multiplies the normalised rows by the whole weight
  matrix and splits the columns afterwards. Both sides are read at one array index, where they are the same sum.
-/
module

public import proofs.«01_k».proof.Proof.Gen.FrontIdeal.Value
public import proofs.«01_k».proof.Proof.Gen.FrontRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FrontIdeal.FrontValue

open Cert.FrontIdeal Cert.FrontIdeal.Gen

variable (m : (ℓ : Loc nD τ sig) → Buf (Elt Ideal) ℓ)

/-- The windows' index maps, decided over the grid: the row-tiled windows move down by one block per point, the others
    stay at the origin. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

abbrev X (c : Dev nD) : FVec Ideal S16384x1024 .f32 := m ((c : Thread nD τ).loc main_arg0)
abbrev Mo (c : Dev nD) : FVec Ideal S6x1024 .f32 := m ((c : Thread nD τ).loc main_arg1)
abbrev Gn (c : Dev nD) : FVec Ideal S1024 .f32 := m ((c : Thread nD τ).loc main_arg2)
abbrev Wi (c : Dev nD) : FVec Ideal S1024x8224 .f32 := m ((c : Thread nD τ).loc main_arg3)

/-- The normalisation gain as the region finds it: the argument as one row. -/
theorem gain_read (c : Dev nD) (x : Fin 1024) : (V m c main_v7 : FVec Ideal S1x1024 .f32) (ix2 0 x) = Gn m c (ix1 x) := by
  dsimp only [V, hostOps0, hostOps0_1, hostOps0_2, List.flatten_cons, List.flatten_nil, List.append_nil, List.cons_append, List.nil_append]
  entry_read
  pointwise

/-- The weights of the first result: the leading columns. -/
theorem w1_read (c : Dev nD) (x : Fin 1024) (y : Fin 2048) :
    (V m c main_v1 : FVec Ideal S1024x2048 .bf16) (ix2 x y) = Wi m c (ix2 x ⟨y.val, by omega⟩) := by
  dsimp only [V, hostOps0, hostOps0_1, hostOps0_2, List.flatten_cons, List.flatten_nil, List.append_nil, List.cons_append, List.nil_append]
  entry_read
  pointwise

theorem w2_read (c : Dev nD) (x : Fin 1024) (y : Fin 3072) :
    (V m c main_v2 : FVec Ideal S1024x3072 .bf16) (ix2 x y) = Wi m c (ix2 x ⟨2048 + y.val, by omega⟩) := by
  dsimp only [V, hostOps0, hostOps0_1, hostOps0_2, List.flatten_cons, List.flatten_nil, List.append_nil, List.cons_append, List.nil_append]
  entry_read
  pointwise

theorem w3_read (c : Dev nD) (x : Fin 1024) (y : Fin 1024) :
    (V m c main_v3 : FVec Ideal S1024x1024 .bf16) (ix2 x y) = Wi m c (ix2 x ⟨5152 + y.val, by omega⟩) := by
  dsimp only [V, hostOps0, hostOps0_1, hostOps0_2, List.flatten_cons, List.flatten_nil, List.append_nil, List.cons_append, List.nil_append]
  entry_read
  pointwise

theorem w4_read (c : Dev nD) (x : Fin 1024) (y : Fin 2048) :
    (V m c main_v4 : FVec Ideal S1024x2048 .bf16) (ix2 x y) = Wi m c (ix2 x ⟨6176 + y.val, by omega⟩) := by
  dsimp only [V, hostOps0, hostOps0_1, hostOps0_2, List.flatten_cons, List.flatten_nil, List.append_nil, List.cons_append, List.nil_append]
  entry_read
  pointwise

/-- The padding value is zero. -/
theorem pad_value (φ : FTy) : FloatOps.sitofp (F := Ideal) φ 0#32 = 0 := by
  show (((0#32 : BitVec 32).toInt : ℝ) : EReal) = 0
  simp

theorem w6_read (c : Dev nD) (x : Fin 1024) (y : Fin 128) :
    (V m c main_v6 : FVec Ideal S1024x128 .bf16) (ix2 x y)
      = if h : y.val < 32 then Wi m c (ix2 x ⟨5120 + y.val, by omega⟩) else 0 := by
  dsimp only [V, hostOps0, hostOps0_1, hostOps0_2, List.flatten_cons, List.flatten_nil, List.append_nil, List.cons_append, List.nil_append]
  entry_read
  change pad S1024x128 ![0, 0] ![0, 96] ![0, 0] (extractStridedSlice S1024x32 ![0, 5120] (truncf (F := Ideal) .bf16 (Wi m c) bitsLt_bf16_f32)
    slices_S1024x8224_S1024x32_0_5120) (sitofp (F := Ideal) .bf16 (constantI S_ 32 0#32)) pads_S1024x32_S1024x128_000_0960 h_S_ (ix2 x y) = _
  pointwise
  split
  · rfl
  · exact pad_value _

/-- Row `r` of the tile at point `t`, normalised and modulated, is that row of the reference's. -/
theorem rows (c : Dev nD) (t : Fin cfg0.N) (r : Fin 256) (x : Fin 1024) (R : Fin 16384) (hR : R.val = 256 * t.val + r.val) :
    k0_pay4 (F := Ideal) (iblk m c 0 t) (iblk m c 2 t) (View.ld (iblk m c 1 t) r0_2) (View.ld (iblk m c 1 t) r0_3) (ix2 r x)
      = Cert.FrontRefIdeal.Read.val_main_v20 (F := Ideal) (X m c) (Mo m c) (Gn m c) (ix2 R x) := by
  pointwise [k0_pay4, Cert.FrontRefIdeal.Read.val_main_cst, Cert.FrontRefIdeal.Read.val_main_cst_0, Cert.FrontRefIdeal.Read.val_main_cst_1, Cert.FrontRefIdeal.Read.val_main_cst_2, Cert.FrontRefIdeal.Read.val_main_v0, Cert.FrontRefIdeal.Read.val_main_v1, Cert.FrontRefIdeal.Read.val_main_v2, Cert.FrontRefIdeal.Read.val_main_v3, Cert.FrontRefIdeal.Read.val_main_v4, Cert.FrontRefIdeal.Read.val_main_v5, Cert.FrontRefIdeal.Read.val_main_v6, Cert.FrontRefIdeal.Read.val_main_v7, Cert.FrontRefIdeal.Read.val_main_v8, Cert.FrontRefIdeal.Read.val_main_v9, Cert.FrontRefIdeal.Read.val_main_v10, Cert.FrontRefIdeal.Read.val_main_v11, Cert.FrontRefIdeal.Read.val_main_v12, Cert.FrontRefIdeal.Read.val_main_v13, Cert.FrontRefIdeal.Read.val_main_v14, Cert.FrontRefIdeal.Read.val_main_v15, Cert.FrontRefIdeal.Read.val_main_v16, Cert.FrontRefIdeal.Read.val_main_v17, Cert.FrontRefIdeal.Read.val_main_v18, Cert.FrontRefIdeal.Read.val_main_v19, Cert.FrontRefIdeal.Read.val_main_v20]
  blk_point [iblk, V, idx t]
  rw [show ((win0_2.blk t).view.emb (ix2 0 x) : S1x1024.Idx) = ix2 0 x from by blk_ext [idx t]]
  exact gain_read m c x

/-- The same row, named once for the later products. -/
theorem rows7 (c : Dev nD) (t : Fin cfg0.N) (r : Fin 256) (x : Fin 1024) (R : Fin 16384) (hR : R.val = 256 * t.val + r.val) :
    k0_pay7 (F := Ideal) (iblk m c 0 t) (iblk m c 1 t) (iblk m c 2 t) (iblk m c 3 t) (iblk m c 4 t) (iblk m c 5 t) (iblk m c 6 t) (iblk m c 7 t) (ix2 r x)
      = Cert.FrontRefIdeal.Read.val_main_v20 (F := Ideal) (X m c) (Mo m c) (Gn m c) (ix2 R x) := by
  refine Eq.trans ?_ (rows m c t r x R hR)
  unfold k0_pay7
  frame_out
  rfl

/-- The first weight block, held whole at every point. -/
theorem in3 (c : Dev nD) (t : Fin cfg0.N) (x : Fin 1024) (y : Fin 2048) :
    (iblk m c 3 t : FVec Ideal S1024x2048 .bf16) (ix2 x y) = Wi m c (ix2 x ⟨y.val, by omega⟩) := by
  blk_simp [iblk]
  rw [show ((win0_3.blk t).view.emb (ix2 x y) : S1024x2048.Idx) = ix2 x y from by blk_ext [idx t]]
  exact w1_read m c x y

/-- The second weight block, held whole at every point. -/
theorem in4 (c : Dev nD) (t : Fin cfg0.N) (x : Fin 1024) (y : Fin 3072) :
    (iblk m c 4 t : FVec Ideal S1024x3072 .bf16) (ix2 x y) = Wi m c (ix2 x ⟨2048 + y.val, by omega⟩) := by
  blk_simp [iblk]
  rw [show ((win0_4.blk t).view.emb (ix2 x y) : S1024x3072.Idx) = ix2 x y from by blk_ext [idx t]]
  exact w2_read m c x y

/-- The third weight block, held whole at every point. -/
theorem in5 (c : Dev nD) (t : Fin cfg0.N) (x : Fin 1024) (y : Fin 128) :
    (iblk m c 5 t : FVec Ideal S1024x128 .bf16) (ix2 x y) = if h : y.val < 32 then Wi m c (ix2 x ⟨5120 + y.val, by omega⟩) else 0 := by
  blk_simp [iblk]
  rw [show ((win0_5.blk t).view.emb (ix2 x y) : S1024x128.Idx) = ix2 x y from by blk_ext [idx t]]
  exact w6_read m c x y

/-- The fourth weight block, held whole at every point. -/
theorem in6 (c : Dev nD) (t : Fin cfg0.N) (x : Fin 1024) (y : Fin 1024) :
    (iblk m c 6 t : FVec Ideal S1024x1024 .bf16) (ix2 x y) = Wi m c (ix2 x ⟨5152 + y.val, by omega⟩) := by
  blk_simp [iblk]
  rw [show ((win0_6.blk t).view.emb (ix2 x y) : S1024x1024.Idx) = ix2 x y from by blk_ext [idx t]]
  exact w3_read m c x y

/-- The fifth weight block, held whole at every point. -/
theorem in7 (c : Dev nD) (t : Fin cfg0.N) (x : Fin 1024) (y : Fin 2048) :
    (iblk m c 7 t : FVec Ideal S1024x2048 .bf16) (ix2 x y) = Wi m c (ix2 x ⟨6176 + y.val, by omega⟩) := by
  blk_simp [iblk]
  rw [show ((win0_7.blk t).view.emb (ix2 x y) : S1024x2048.Idx) = ix2 x y from by blk_ext [idx t]]
  exact w4_read m c x y

/-- One element of the gate columns of a tile. -/
theorem elem8 (c : Dev nD) (t : Fin cfg0.N) (r : Fin 256) (l : Fin 2048) (R : Fin 16384) (hR : R.val = 256 * t.val + r.val) :
    k0_pay5 (F := Ideal) (iblk m c 0 t) (iblk m c 2 t) (View.ld (iblk m c 1 t) r0_2) (View.ld (iblk m c 1 t) r0_3) (iblk m c 3 t) (ix2 r l)
      = Cert.FrontRefIdeal.Read.val_main_v22 (F := Ideal) (X m c) (Mo m c) (Gn m c) (Wi m c) (ix2 R l) := by
  pointwise [k0_pay5, Cert.FrontRefIdeal.Read.val_main_v22, Cert.FrontRefIdeal.Read.val_main_v21]
  exact Finset.sum_congr rfl fun x _ => congrArg₂ (· * ·) (rows m c t r x R hR) (in3 m c t x l)

/-- The gate columns after the run. -/
theorem final8 (c : Dev nD) : (dats m 0 c).arrAt 8 (cfgs 0).N
    = Cert.FrontRefIdeal.Read.val_main_v22 (F := Ideal) (X m c) (Mo m c) (Gn m c) (Wi m c) := by
  refine (dats m 0 c).arrAt_eq_of_covers 8 _ (by decide +kernel) fun t _ y => ?_
  blk_simp
  rw [after0_8]; frame_out
  idx_vars y
  have hr : 256 * t.val + y0.val < 16384 := by
    have := lt_of_lt_of_eq t.isLt (show cfg0.N = 64 from N_0); have := y0.isLt; omega
  rw [show ((View.whole main_v8_0).slice (win0_8.rect t)).emb (ix2 y0 y1) = (ix2 ⟨256 * t.val + y0.val, hr⟩ y1 : S16384x2048.Idx) from by
    blk_ext [idx t]]
  exact elem8 m c t y0 y1 _ rfl

/-- One element of the convolution columns of a tile. -/
theorem elem9 (c : Dev nD) (t : Fin cfg0.N) (r : Fin 256) (l : Fin 3072) (R : Fin 16384) (hR : R.val = 256 * t.val + r.val) :
    k0_pay6 (F := Ideal) (iblk m c 0 t) (iblk m c 2 t) (View.ld (iblk m c 1 t) r0_2) (View.ld (iblk m c 1 t) r0_3) (iblk m c 4 t) (ix2 r l)
      = Cert.FrontRefIdeal.Read.val_main_v23 (F := Ideal) (X m c) (Mo m c) (Gn m c) (Wi m c) (ix2 R l) := by
  pointwise [k0_pay6, Cert.FrontRefIdeal.Read.val_main_v23, Cert.FrontRefIdeal.Read.val_main_v21]
  exact Finset.sum_congr rfl fun x _ => congrArg₂ (· * ·) (rows m c t r x R hR) (in4 m c t x l)

/-- The convolution columns after the run. -/
theorem final9 (c : Dev nD) : (dats m 0 c).arrAt 9 (cfgs 0).N
    = Cert.FrontRefIdeal.Read.val_main_v23 (F := Ideal) (X m c) (Mo m c) (Gn m c) (Wi m c) := by
  refine (dats m 0 c).arrAt_eq_of_covers 9 _ (by decide +kernel) fun t _ y => ?_
  blk_simp
  rw [after0_9]; frame_out
  idx_vars y
  have hr : 256 * t.val + y0.val < 16384 := by
    have := lt_of_lt_of_eq t.isLt (show cfg0.N = 64 from N_0); have := y0.isLt; omega
  rw [show ((View.whole main_v8_1).slice (win0_9.rect t)).emb (ix2 y0 y1) = (ix2 ⟨256 * t.val + y0.val, hr⟩ y1 : S16384x3072.Idx) from by
    blk_ext [idx t]]
  exact elem9 m c t y0 y1 _ rfl

/-- One element of the time step columns of a tile. -/
theorem elem10 (c : Dev nD) (t : Fin cfg0.N) (r : Fin 256) (l : Fin 128) (R : Fin 16384) (hR : R.val = 256 * t.val + r.val) :
    k0_pay1 (F := Ideal) (k0_pay7 (F := Ideal) (iblk m c 0 t) (iblk m c 1 t) (iblk m c 2 t) (iblk m c 3 t) (iblk m c 4 t) (iblk m c 5 t) (iblk m c 6 t) (iblk m c 7 t)) (iblk m c 5 t) (ix2 r l)
      = Cert.FrontRefIdeal.Read.val_main_v27 (F := Ideal) (X m c) (Mo m c) (Gn m c) (Wi m c) (ix2 R l) := by
  pointwise [k0_pay1, Cert.FrontRefIdeal.Read.val_main_v27, Cert.FrontRefIdeal.Read.val_main_v24, Cert.FrontRefIdeal.Read.val_main_v21, Cert.FrontRefIdeal.Read.val_main_call0_v0, Cert.FrontRefIdeal.Read.val_main_c]
  split
  · rename_i h
    refine Finset.sum_congr rfl fun x _ => congrArg₂ (· * ·) (rows7 m c t r x R hR) ?_
    rw [in5 m c t x l, dif_pos h]
  · rename_i h
    refine (Finset.sum_eq_zero fun x _ => ?_).trans (pad_value _).symm
    rw [in5 m c t x l, dif_neg h, mul_zero]

/-- The time step columns after the run. -/
theorem final10 (c : Dev nD) : (dats m 0 c).arrAt 10 (cfgs 0).N
    = Cert.FrontRefIdeal.Read.val_main_v27 (F := Ideal) (X m c) (Mo m c) (Gn m c) (Wi m c) := by
  refine (dats m 0 c).arrAt_eq_of_covers 10 _ (by decide +kernel) fun t _ y => ?_
  blk_simp
  rw [after0_10]; frame_out
  idx_vars y
  have hr : 256 * t.val + y0.val < 16384 := by
    have := lt_of_lt_of_eq t.isLt (show cfg0.N = 64 from N_0); have := y0.isLt; omega
  rw [show ((View.whole main_v8_2).slice (win0_10.rect t)).emb (ix2 y0 y1) = (ix2 ⟨256 * t.val + y0.val, hr⟩ y1 : S16384x128.Idx) from by
    blk_ext [idx t]]
  exact elem10 m c t y0 y1 _ rfl

/-- One element of the pooling columns of a tile. -/
theorem elem11 (c : Dev nD) (t : Fin cfg0.N) (r : Fin 256) (l : Fin 1024) (R : Fin 16384) (hR : R.val = 256 * t.val + r.val) :
    k0_pay2 (F := Ideal) (k0_pay7 (F := Ideal) (iblk m c 0 t) (iblk m c 1 t) (iblk m c 2 t) (iblk m c 3 t) (iblk m c 4 t) (iblk m c 5 t) (iblk m c 6 t) (iblk m c 7 t)) (iblk m c 6 t) (ix2 r l)
      = Cert.FrontRefIdeal.Read.val_main_v25 (F := Ideal) (X m c) (Mo m c) (Gn m c) (Wi m c) (ix2 R l) := by
  pointwise [k0_pay2, Cert.FrontRefIdeal.Read.val_main_v25, Cert.FrontRefIdeal.Read.val_main_v21]
  exact Finset.sum_congr rfl fun x _ => congrArg₂ (· * ·) (rows7 m c t r x R hR) (in6 m c t x l)

/-- The pooling columns after the run. -/
theorem final11 (c : Dev nD) : (dats m 0 c).arrAt 11 (cfgs 0).N
    = Cert.FrontRefIdeal.Read.val_main_v25 (F := Ideal) (X m c) (Mo m c) (Gn m c) (Wi m c) := by
  refine (dats m 0 c).arrAt_eq_of_covers 11 _ (by decide +kernel) fun t _ y => ?_
  blk_simp
  rw [after0_11]; frame_out
  idx_vars y
  have hr : 256 * t.val + y0.val < 16384 := by
    have := lt_of_lt_of_eq t.isLt (show cfg0.N = 64 from N_0); have := y0.isLt; omega
  rw [show ((View.whole main_v8_3).slice (win0_11.rect t)).emb (ix2 y0 y1) = (ix2 ⟨256 * t.val + y0.val, hr⟩ y1 : S16384x1024.Idx) from by
    blk_ext [idx t]]
  exact elem11 m c t y0 y1 _ rfl

/-- One element of the pooling gate columns of a tile. -/
theorem elem12 (c : Dev nD) (t : Fin cfg0.N) (r : Fin 256) (l : Fin 2048) (R : Fin 16384) (hR : R.val = 256 * t.val + r.val) :
    k0_pay3 (F := Ideal) (k0_pay7 (F := Ideal) (iblk m c 0 t) (iblk m c 1 t) (iblk m c 2 t) (iblk m c 3 t) (iblk m c 4 t) (iblk m c 5 t) (iblk m c 6 t) (iblk m c 7 t)) (iblk m c 7 t) (ix2 r l)
      = Cert.FrontRefIdeal.Read.val_main_v26 (F := Ideal) (X m c) (Mo m c) (Gn m c) (Wi m c) (ix2 R l) := by
  pointwise [k0_pay3, Cert.FrontRefIdeal.Read.val_main_v26, Cert.FrontRefIdeal.Read.val_main_v21]
  exact Finset.sum_congr rfl fun x _ => congrArg₂ (· * ·) (rows7 m c t r x R hR) (in7 m c t x l)

/-- The pooling gate columns after the run. -/
theorem final12 (c : Dev nD) : (dats m 0 c).arrAt 12 (cfgs 0).N
    = Cert.FrontRefIdeal.Read.val_main_v26 (F := Ideal) (X m c) (Mo m c) (Gn m c) (Wi m c) := by
  refine (dats m 0 c).arrAt_eq_of_covers 12 _ (by decide +kernel) fun t _ y => ?_
  blk_simp
  rw [after0_12]; frame_out
  idx_vars y
  have hr : 256 * t.val + y0.val < 16384 := by
    have := lt_of_lt_of_eq t.isLt (show cfg0.N = 64 from N_0); have := y0.isLt; omega
  rw [show ((View.whole main_v8_4).slice (win0_12.rect t)).emb (ix2 y0 y1) = (ix2 ⟨256 * t.val + y0.val, hr⟩ y1 : S16384x2048.Idx) from by
    blk_ext [idx t]]
  exact elem12 m c t y0 y1 _ rfl

end Cert.FrontIdeal.FrontValue
end
-- ==== Proof.FrontClaim.lean ====
/- The claims about the input-projection call: the frames of the kernel, its idealization and its reference, and the
   equality of their five results over the extended reals (`FrontValue`'s equations read through the two runs). -/
module

public import proofs.«01_k».proof.Defs
public import proofs.«01_k».proof.Proof.FrontValue
public import proofs.«01_k».proof.Proof.Gen.Front.Frame
public import proofs.«01_k».proof.Proof.Gen.FrontIdeal.Frame
public import proofs.«01_k».proof.Proof.Gen.FrontRefIdeal.Run
public import Idealize.ShloMosaic.Lib.Claim

@[expose] public section

set_option maxRecDepth 16384

noncomputable section

open Idealize.ShloMosaic Idealize.SL.Sem

namespace Cert.FrontClaim

theorem frame_p : Cert.quiescent_Front := fun m ρ _ => Cert.Front.Gen.frame m ρ
theorem frame_pi : Cert.quiescent_FrontIdeal := fun m ρ _ => Cert.FrontIdeal.Gen.frame m ρ

/-- The reference has no counters at all; its arguments end unchanged by its run. -/
theorem frame_ri : Cert.quiescent_FrontRefIdeal := fun m ρ _ =>
  (θ_run Cert.FrontRefIdeal.defs _ _).mono
    (fun r h => ⟨fun c => (h c).2.2.2.2.2, Idealize.ShloMosaic.sem_eq_zero_of_no_sems (by decide) r.2⟩)
    (Cert.FrontRefIdeal.Value.run (F := Ideal) m ρ)

set_option maxHeartbeats 1600000 in
/-- The five arrays the kernel writes are the reference's five results. -/
theorem algebraic : Cert.algebraic_FrontIdeal_FrontRefIdeal := by
  pair_intro
  · run_from Cert.FrontIdeal.Gen.run_main m g
    · exact Cert.FrontIdeal.Gen.V_main_arg2 m c
    · exact Cert.FrontIdeal.Gen.V_main_arg3 m c
  · refine (θ_run Cert.FrontRefIdeal.defs _ _).mono (fun _ h c => ?_) (Cert.FrontRefIdeal.Value.run (F := Ideal) m' g')
    obtain ⟨h8, h9, h10, h11, h12, ha⟩ := h c
    refine ⟨h8.trans ?_, h9.trans ?_, h10.trans ?_, h11.trans ?_, h12.trans ?_, ha⟩
    all_goals obtain ⟨e0, e1, e2, e3⟩ := hagree c
    all_goals rw [e0, e1, e2, e3]
    · exact (Cert.FrontIdeal.FrontValue.final8 m c).symm
    · exact (Cert.FrontIdeal.FrontValue.final9 m c).symm
    · exact (Cert.FrontIdeal.FrontValue.final10 m c).symm
    · exact (Cert.FrontIdeal.FrontValue.final11 m c).symm
    · exact (Cert.FrontIdeal.FrontValue.final12 m c).symm

end Cert.FrontClaim

end

end
-- ==== Proof.Windows.lean ====
/-
  Sums over the last rows of a column, taken in two ways: directly, and as a difference of two running totals.
-/
module

public import Idealize.ShloMosaic.Lib.Pipeline.ValueKit
public import Idealize.ShloMosaic.Lib.Routing.Ops
public import Idealize.ShloMosaic.Lib.Routing.OpsPair

@[expose] public section

set_option maxRecDepth 16384

noncomputable section

open Idealize.ShloMosaic Idealize.ShloMosaic.TcCoe Idealize.SL.Sem

namespace Cert.Windows

/-- The sum of the first `n` entries. -/
def pre (f : ℕ → EReal) (n : ℕ) : EReal := ∑ i ∈ Finset.range n, f i

/-- The sum of the `w` entries ending at `R`, of those there are. -/
def win (f : ℕ → EReal) (w R : ℕ) : EReal := ∑ k ∈ Finset.range w, if k ≤ R then f (R - k) else 0

/-- The running total before a window and the window's sum make the running total after it. -/
theorem pre_add_win (f : ℕ → EReal) (R : ℕ) : ∀ w : ℕ, pre f (R + 1 - w) + win f w R = pre f (R + 1)
  | 0 => by simp [win]
  | w + 1 => by
    refine Eq.trans ?_ (pre_add_win f R w)
    unfold win
    rw [Finset.sum_range_succ]
    by_cases h : w ≤ R
    · rw [if_pos h, show R + 1 - w = R - w + 1 by omega, show R + 1 - (w + 1) = R - w by omega]
      unfold pre
      rw [Finset.sum_range_succ _ (R - w), add_assoc, add_comm (f (R - w))]
    · rw [if_neg h, add_zero, show R + 1 - (w + 1) = R + 1 - w by omega]

/-- A running total of finite entries is finite. -/
theorem pre_finite (f : ℕ → EReal) (g : ℕ → ℝ) (hf : ∀ i, f i = (g i : EReal)) : ∀ n : ℕ, pre f n = ((∑ i ∈ Finset.range n, g i : ℝ) : EReal)
  | 0 => by simp [pre]
  | n + 1 => by
    have h := pre_finite f g hf n
    unfold pre at h ⊢
    rw [Finset.sum_range_succ, h, hf, Finset.sum_range_succ, EReal.coe_add]

/-- The difference of the two running totals is the window's sum, of finite entries. -/
theorem pre_sub_pre (f : ℕ → EReal) (g : ℕ → ℝ) (hf : ∀ i, f i = (g i : EReal)) (w R : ℕ) :
    pre f (R + 1) - pre f (R + 1 - w) = win f w R := by
  rw [← pre_add_win f R w, pre_finite f g hf]
  exact EReal.add_sub_cancel_left

/-- The sum of the `w` entries of `y` ending at `j`, all of them there. -/
def back (y : ℕ → EReal) (w j : ℕ) : EReal := ∑ k ∈ Finset.range w, y (j - k)

theorem back_one (y : ℕ → EReal) (j : ℕ) : back y 1 j = y j := by simp [back]

/-- Two windows side by side make the window of both lengths together. -/
theorem back_double (y : ℕ → EReal) (w j : ℕ) : back y w j + back y w (j - w) = back y (w + w) j := by
  unfold back
  rw [Finset.sum_range_add]
  exact congrArg _ (Finset.sum_congr rfl fun k _ => congrArg y (Nat.sub_sub j w k))

theorem numel_two (H D : ℕ) : (⟨2, ![H, D]⟩ : Shape).numel = H * D := by
  unfold Shape.numel
  exact (Fin.prod_univ_two _).trans rfl

/-- A row window of the whole height padded above by one row less is the running total of the column. -/
theorem window_total {H D N : ℕ} (hN : N + 1 = H) (x : (⟨2, ![H, D]⟩ : Shape).Idx → EReal) (f : ℕ → EReal) (c : Fin D)
    (hx : ∀ i : Fin H, x (ix2 i c) = f i.val)
    (h : (⟨2, ![H, D]⟩ : Shape).ReduceWindows (![H, 1] : Fin 2 → Nat) ![1, 1] ![N, 0] ![0, 0] ⟨2, ![H, D]⟩) (r : Fin H) :
    Ideal.hostReduceWindowAdd (s := ⟨2, ![H, D]⟩) ![H, 1] ![1, 1] ![N, 0] ![0, 0] h x 0 (ix2 r c) = pre f (r.val + 1) := by
  subst hN
  unfold Ideal.hostReduceWindowAdd Host.reduceWindow
  have hadd : ∀ (l : List (Fin (⟨2, ![N + 1, 1]⟩ : Shape).numel)) (g : Fin (⟨2, ![N + 1, 1]⟩ : Shape).numel → EReal) (z : EReal),
      l.foldl (fun s n => s + g n) z = z + (l.map g).sum := by
    intro l g
    induction l with
    | nil => intro z; simp
    | cons n l ih => intro z; rw [List.foldl_cons, ih, List.map_cons, List.sum_cons, add_assoc]
  refine (hadd _ _ _).trans ?_
  rw [zero_add]
  have hpos : ∀ n : Fin (⟨2, ![N + 1, 1]⟩ : Shape).numel, ((⟨2, ![N + 1, 1]⟩ : Shape).rowMajor.symm n 0).val = n.val
      ∧ ((⟨2, ![N + 1, 1]⟩ : Shape).rowMajor.symm n 1).val = 0 := by
    intro n
    have hn : n.val < (N + 1) * 1 := (numel_two (N + 1) 1) ▸ n.isLt
    have e := Routing.symm22 (A := N + 1) (B := 1) n (by omega) (by omega)
    exact ⟨(congrArg (fun q : (⟨2, ![N + 1, 1]⟩ : Shape).Idx => (q 0).val) e).trans (Nat.div_one _),
      (congrArg (fun q : (⟨2, ![N + 1, 1]⟩ : Shape).Idx => (q 1).val) e).trans (Nat.mod_one _)⟩
  refine (congrArg List.sum (List.map_congr_left (g := fun n => (fun k : ℕ => if N ≤ r.val + k then f (r.val + k - N) else 0) n.val) fun n _ => ?_)).trans ?_
  · obtain ⟨h0, h1⟩ := hpos n
    have hn : n.val < (N + 1) * 1 := (numel_two (N + 1) 1) ▸ n.isLt
    have hr := r.isLt
    dsimp only
    split
    · next hin =>
      have a0 := hin 0
      change N ≤ r.val * 1 + ((⟨2, ![N + 1, 1]⟩ : Shape).rowMajor.symm n 0).val
        ∧ r.val * 1 + ((⟨2, ![N + 1, 1]⟩ : Shape).rowMajor.symm n 0).val - N < N + 1 at a0
      rw [h0] at a0
      rw [if_pos (by omega)]
      refine (congrArg x (funext fun a => Fin.ext ?_)).trans (hx ⟨r.val + n.val - N, by omega⟩)
      match a with
      | ⟨0, _⟩ =>
        show r.val * 1 + ((⟨2, ![N + 1, 1]⟩ : Shape).rowMajor.symm n 0).val - N = r.val + n.val - N
        rw [h0, Nat.mul_one]
      | ⟨1, _⟩ =>
        show c.val * 1 + ((⟨2, ![N + 1, 1]⟩ : Shape).rowMajor.symm n 1).val - 0 = c.val
        omega
    · next hin =>
      rw [if_neg fun hle => hin fun a => by
        match a with
        | ⟨0, _⟩ =>
          show N ≤ r.val * 1 + ((⟨2, ![N + 1, 1]⟩ : Shape).rowMajor.symm n 0).val
            ∧ r.val * 1 + ((⟨2, ![N + 1, 1]⟩ : Shape).rowMajor.symm n 0).val - N < N + 1
          rw [h0]
          omega
        | ⟨1, _⟩ =>
          show 0 ≤ c.val * 1 + ((⟨2, ![N + 1, 1]⟩ : Shape).rowMajor.symm n 1).val
            ∧ c.val * 1 + ((⟨2, ![N + 1, 1]⟩ : Shape).rowMajor.symm n 1).val - 0 < D
          have := c.isLt
          omega]
  · rw [← Fin.sum_univ_def]
    refine (Fin.sum_univ_eq_sum_range (fun k : ℕ => if N ≤ r.val + k then f (r.val + k - N) else 0) _).trans ?_
    refine (congrArg (fun M => ∑ k ∈ Finset.range M, if N ≤ r.val + k then f (r.val + k - N) else 0) (numel_two (N + 1) 1)).trans ?_
    have hr := r.isLt
    obtain ⟨d, hd⟩ : ∃ d, N = d + r.val := ⟨N - r.val, by omega⟩
    rw [show (N + 1) * 1 = d + (r.val + 1) by omega, Finset.sum_range_add]
    rw [Finset.sum_eq_zero (fun k hk => if_neg (by have := Finset.mem_range.1 hk; omega)), zero_add]
    exact Finset.sum_congr rfl fun k _ => by rw [if_pos (by omega)]; exact congrArg f (by omega)

/-- Small words keep their value when read signed. -/
theorem toInt_small {n : ℕ} (hn : n < 2 ^ 31) : (BitVec.ofNat 32 n).toInt = (n : ℤ) := by
  rw [BitVec.toInt_eq_toNat_of_lt (by rw [BitVec.toNat_ofNat]; omega), BitVec.toNat_ofNat]
  omega

/-- The smaller of two small words. -/
theorem minsi_small {a b : ℕ} (ha : a < 2 ^ 31) (hb : b < 2 ^ 31) :
    IntOp.minsi (BitVec.ofNat 32 a) (BitVec.ofNat 32 b) = BitVec.ofNat 32 (min a b) := by
  unfold IntOp.minsi BitVec.slt
  rw [toInt_small ha, toInt_small hb]
  by_cases h : a < b
  · rw [if_pos (by simpa using h), min_eq_left h.le]
  · rw [if_neg (by simpa using h), min_eq_right (not_lt.1 h)]

/-- The first row of a window, as the difference cut off at zero. -/
theorem start_small {a b : ℕ} (ha : a < 2 ^ 31) (hb : b < 2 ^ 31) :
    IntOp.maxsi (IntOp.subi (BitVec.ofNat 32 a) (BitVec.ofNat 32 b)) 0#32 = BitVec.ofNat 32 (a - b) := by
  unfold IntOp.maxsi IntOp.subi BitVec.slt
  by_cases h : b ≤ a
  · rw [show (BitVec.ofNat 32 a - BitVec.ofNat 32 b) = BitVec.ofNat 32 (a - b) from BitVec.eq_of_toNat_eq (by
      rw [BitVec.toNat_sub, BitVec.toNat_ofNat, BitVec.toNat_ofNat, BitVec.toNat_ofNat]; omega)]
    rw [toInt_small (n := a - b) (by omega), toInt_small (n := 0) (by omega)]
    split
    · rfl
    · next hc =>
      have h0 : a - b = 0 := by
        by_contra h0
        refine hc ?_
        exact decide_eq_true (by omega)
      rw [h0]
  · rw [show a - b = 0 by omega]
    rw [if_neg]
    have hx : (BitVec.ofNat 32 a - BitVec.ofNat 32 b).toInt = (a : ℤ) - b := by
      rw [BitVec.toInt_sub, toInt_small ha, toInt_small hb, Int.bmod_def]
      split <;> omega
    rw [hx]
    simp
    omega

end Cert.Windows

end

end
-- ==== Proof.MergePool.lean ====
/-
  The pooled columns of the reference: mean over the last 2, 4, 8 or 16 rows, less the row itself.

  The reference takes the sum over a window as the difference of two running totals of the column; over finite entries
  that is the window's own sum.
-/
module

public import proofs.«01_k».proof.Proof.Gen.MergeRefIdeal.Read
public import proofs.«01_k».proof.Proof.Windows
public import Idealize.ShloMosaic.Lib.Routing.Ops
public import Idealize.ShloMosaic.Lib.Routing.OpsPair

@[expose] public section

set_option maxRecDepth 16384

noncomputable section

open Idealize.ShloMosaic Idealize.ShloMosaic.TcCoe Idealize.SL.Sem

namespace Cert.MergeRefIdeal.Pool

open Cert.MergeRefIdeal Cert.MergeRefIdeal.Gen Cert.MergeRefIdeal.Read Cert.Windows

/-- A column by its row numbers, zero past the last row. -/
def col (P : FVec Ideal S16384x1024 .f32) (C : Fin 1024) (i : ℕ) : EReal := if h : i < 16384 then P (ix2 ⟨i, h⟩ C) else 0

theorem col_at (P : FVec Ideal S16384x1024 .f32) (C : Fin 1024) (i : Fin 16384) : col P C i.val = P (ix2 i C) := dif_pos i.isLt

/-- The mean of the last `w` rows of a column at row `R`, of those there are, less the row. -/
def pool (P : FVec Ideal S16384x1024 .f32) (w : ℕ) (R : Fin 16384) (C : Fin 1024) : EReal :=
  Ideal.div (win (col P C) w R.val) (((min (R.val + 1) w : ℕ) : ℝ) : EReal) - P (ix2 R C)

/-- The running totals. -/
theorem total_elem (P : FVec Ideal S16384x1024 .f32) (R : Fin 16384) (C : Fin 1024) :
    val_main_v3 (F := Ideal) P (ix2 R C) = pre (col P C) (R.val + 1) := by
  have h0 : (val_main_call0_call0_v0 (F := Ideal)) ix0 = (0 : EReal) := by pointwise [val_main_call0_call0_v0, val_main_call0_call0_cst]
  have hz : val_main_v3 (F := Ideal) P = Ideal.hostReduceWindowAdd (s := S16384x1024) ![16384, 1] ![1, 1] ![16383, 0] ![0, 0]
      reduceWindows_S16384x1024_S16384x1024_w16384s1p16383_0_w1s1p0_0 P 0 := by
    unfold val_main_v3 Host.reduceWindowAdd
    rw [← h0, ValueIdx.eq_ix0 (Shape.Idx.first h_S_)]
    rfl
  rw [hz]
  exact window_total (H := 16384) (D := 1024) (N := 16383) (by norm_num) P (col P C) C (fun i => (col_at P C i).symm) _ R

/-- The running totals with a zero row in front, by column group. -/
theorem before_elem (P : FVec Ideal S16384x1024 .f32) (n : Fin 16385) (g : Fin 4) (y : Fin 256) (C : Fin 1024) (hC : C.val = 256 * g.val + y.val) :
    val_main_v5 (F := Ideal) P (ix3 n g y) = pre (col P C) n.val := by
  have hn := n.isLt
  have hg := g.isLt
  have hy := y.isLt
  rw [val_main_v5_apply, show idx_main_v5 (ix3 n g y) = (ix2 n C : S16385x1024.Idx) from funext fun a => Fin.ext (by
    match a with
    | ⟨0, _⟩ => show ((n.val * 4 + g.val) * 256 + y.val) / 1024 = n.val; omega
    | ⟨1, _⟩ => show ((n.val * 4 + g.val) * 256 + y.val) % 1024 = C.val; omega)]
  pointwise [val_main_v4, val_main_call1_v0, val_main_c]
  by_cases h : 1 ≤ n.val
  · rw [dif_pos ⟨h, by omega⟩]
    refine (total_elem P ⟨n.val - 1, by omega⟩ C).trans ?_
    exact congrArg (pre (col P C)) (by show n.val - 1 + 1 = n.val; omega)
  · rw [dif_neg fun h' => h h'.1, show n.val = 0 by omega]
    show (((0#32 : BitVec 32).toInt : ℝ) : EReal) = 0
    simp

/-- The first row of the window ending at row `R`, as the reference computes its word. -/
theorem start_word (R : Fin 16384) (w : ℕ) (hw : w < 2 ^ 31) :
    Scalar.select (IntOp.cmpi .slt (IntOp.maxsi (IntOp.subi (IntOp.addi 1#32 (BitVec.ofNat 32 R.val)) (BitVec.ofNat 32 w)) 0#32) 0#32)
      (IntOp.addi (IntOp.maxsi (IntOp.subi (IntOp.addi 1#32 (BitVec.ofNat 32 R.val)) (BitVec.ofNat 32 w)) 0#32) 16385#32)
      (IntOp.maxsi (IntOp.subi (IntOp.addi 1#32 (BitVec.ofNat 32 R.val)) (BitVec.ofNat 32 w)) 0#32) = BitVec.ofNat 32 (R.val + 1 - w) := by
  have hR := R.isLt
  rw [show IntOp.addi 1#32 (BitVec.ofNat 32 R.val) = BitVec.ofNat 32 (R.val + 1) from BitVec.eq_of_toNat_eq (by
    show (1#32 + BitVec.ofNat 32 R.val).toNat = _
    rw [BitVec.toNat_add, BitVec.toNat_ofNat, BitVec.toNat_ofNat, BitVec.toNat_ofNat]; omega), start_small (by omega) hw]
  exact Routing.wrap_of_lt _ _ (by rw [BitVec.toNat_ofNat]; show _ < 2 ^ 31; omega)

/-- The number of rows in the window ending at row `R`, read back from its word. -/
theorem count_word (R : Fin 16384) (w : ℕ) (hw : w < 2 ^ 31) :
    ((IntOp.minsi (IntOp.addi 1#32 (BitVec.ofNat 32 R.val)) (BitVec.ofNat 32 w)).toInt : ℝ) = ((min (R.val + 1) w : ℕ) : ℝ) := by
  have hR := R.isLt
  rw [show IntOp.addi 1#32 (BitVec.ofNat 32 R.val) = BitVec.ofNat 32 (R.val + 1) from BitVec.eq_of_toNat_eq (by
    show (1#32 + BitVec.ofNat 32 R.val).toNat = _
    rw [BitVec.toNat_add, BitVec.toNat_ofNat, BitVec.toNat_ofNat, BitVec.toNat_ofNat]; omega), minsi_small (by omega) hw, toInt_small (by omega)]
  push_cast
  rfl

/-- A row of the running totals taken by its number. -/
theorem taken_elem (x : FVec Ideal S16385x256 .f32) (i : IVec S16384x1 32) (R : Fin 16384) (y : Fin 256) (n : Fin 16385)
    (h : i (ix2 R 0) = BitVec.ofNat 32 n.val) :
    Host.gather gather_S16385x256_S16384x1_S16384x256_1_0_n_n_0_1_1256 x i (ix2 R y) = x (ix2 n y) :=
  Routing.gather_row gather_S16385x256_S16384x1_S16384x256_1_0_n_n_0_1_1256 rfl rfl rfl rfl rfl x i R y n h (by decide)

/-- From the pieces of one group to its pooled element. -/
theorem pool_of (P : FVec Ideal S16384x1024 .f32) (q : ℕ → ℝ) (w : ℕ) (hw : w < 2 ^ 31) (R : Fin 16384) (g : Fin 4) (y : Fin 256) (C : Fin 1024)
    (hC : C.val = 256 * g.val + y.val) (hq : ∀ i, col P C i = (q i : EReal)) (r1 r0 : Fin 16385) (h1 : r1.val = 1 + R.val) (h0 : r0.val = R.val + 1 - w)
    (C' : Fin 1024) (hC' : C'.val = 256 * g.val + y.val) :
    Ideal.div (val_main_v5 (F := Ideal) P (ix3 r1 g y) - val_main_v5 (F := Ideal) P (ix3 r0 g y))
        (FloatOps.sitofp (F := Ideal) .f32 (IntOp.minsi (IntOp.addi 1#32 (BitVec.ofNat 32 R.val)) (BitVec.ofNat 32 w))) - P (ix2 R C') = pool P w R C := by
  obtain rfl : C' = C := Fin.ext (hC'.trans hC.symm)
  rw [before_elem P r1 g y C' hC', before_elem P r0 g y C' hC', h1, h0, Nat.add_comm 1, pre_sub_pre _ q hq]
  show Ideal.div _ ((((IntOp.minsi (IntOp.addi 1#32 (BitVec.ofNat 32 R.val)) (BitVec.ofNat 32 w)).toInt : ℝ)) : EReal) - _ = _
  rw [count_word R w hw]
  rfl

theorem pool0 (P : FVec Ideal S16384x1024 .f32) (q : ℕ → ℝ) (R : Fin 16384) (y : Fin 256) (C : Fin 1024) (hC : C.val = 256 * 0 + y.val)
    (hq : ∀ i, col P C i = (q i : EReal)) : val_main_v32 (F := Ideal) P (ix2 R y) = pool P 2 R C := by
  have hR := R.isLt
  have hg := taken_elem (val_main_v14 (F := Ideal) P) (val_main_v21 (F := Ideal)) R y ⟨R.val + 1 - 2, by omega⟩ (by
    pointwise [val_main_v21, val_main_v20, val_main_v19, val_main_v18, val_main_v17, val_main_v16, val_main_v12, val_main_v11, val_main_v10, val_main_v9, val_main_v8, val_main_v7, val_main_v6, val_main_c_0, val_main_c_1, val_main_c_2, val_main_c_3, val_main_c_4]
    exact start_word R 2 (by decide))
  pointwise [val_main_v32, val_main_v29, val_main_v23, val_main_v15, val_main_v22]
  rw [hg]
  pointwise [val_main_v14, val_main_v13, val_main_v28, val_main_v27, val_main_v26, val_main_v25, val_main_v24, val_main_c_5, val_main_v8, val_main_v7, val_main_v6, val_main_c_0, val_main_v31, val_main_v30, val_main_v2]
  exact pool_of P q 2 (by decide) R 0 y C hC hq _ _ rfl rfl _ (by dsimp only; omega)

theorem pool1 (P : FVec Ideal S16384x1024 .f32) (q : ℕ → ℝ) (R : Fin 16384) (y : Fin 256) (C : Fin 1024) (hC : C.val = 256 * 1 + y.val)
    (hq : ∀ i, col P C i = (q i : EReal)) : val_main_v56 (F := Ideal) P (ix2 R y) = pool P 4 R C := by
  have hR := R.isLt
  have hg := taken_elem (val_main_v38 (F := Ideal) P) (val_main_v45 (F := Ideal)) R y ⟨R.val + 1 - 4, by omega⟩ (by
    pointwise [val_main_v45, val_main_v44, val_main_v43, val_main_v42, val_main_v41, val_main_v40, val_main_v36, val_main_v35, val_main_v34, val_main_v33, val_main_v8, val_main_v7, val_main_v6, val_main_c_0, val_main_c_6, val_main_c_7, val_main_c_8, val_main_c_9]
    exact start_word R 4 (by decide))
  pointwise [val_main_v56, val_main_v53, val_main_v47, val_main_v39, val_main_v46]
  rw [hg]
  pointwise [val_main_v38, val_main_v37, val_main_v52, val_main_v51, val_main_v50, val_main_v49, val_main_v48, val_main_c_10, val_main_v8, val_main_v7, val_main_v6, val_main_c_0, val_main_v55, val_main_v54, val_main_v2]
  exact pool_of P q 4 (by decide) R 1 y C hC hq _ _ rfl rfl _ (by dsimp only; omega)

theorem pool2 (P : FVec Ideal S16384x1024 .f32) (q : ℕ → ℝ) (R : Fin 16384) (y : Fin 256) (C : Fin 1024) (hC : C.val = 256 * 2 + y.val)
    (hq : ∀ i, col P C i = (q i : EReal)) : val_main_v80 (F := Ideal) P (ix2 R y) = pool P 8 R C := by
  have hR := R.isLt
  have hg := taken_elem (val_main_v62 (F := Ideal) P) (val_main_v69 (F := Ideal)) R y ⟨R.val + 1 - 8, by omega⟩ (by
    pointwise [val_main_v69, val_main_v68, val_main_v67, val_main_v66, val_main_v65, val_main_v64, val_main_v60, val_main_v59, val_main_v58, val_main_v57, val_main_v8, val_main_v7, val_main_v6, val_main_c_0, val_main_c_11, val_main_c_12, val_main_c_13, val_main_c_14]
    exact start_word R 8 (by decide))
  pointwise [val_main_v80, val_main_v77, val_main_v71, val_main_v63, val_main_v70]
  rw [hg]
  pointwise [val_main_v62, val_main_v61, val_main_v76, val_main_v75, val_main_v74, val_main_v73, val_main_v72, val_main_c_15, val_main_v8, val_main_v7, val_main_v6, val_main_c_0, val_main_v79, val_main_v78, val_main_v2]
  exact pool_of P q 8 (by decide) R 2 y C hC hq _ _ rfl rfl _ (by dsimp only; omega)

theorem pool3 (P : FVec Ideal S16384x1024 .f32) (q : ℕ → ℝ) (R : Fin 16384) (y : Fin 256) (C : Fin 1024) (hC : C.val = 256 * 3 + y.val)
    (hq : ∀ i, col P C i = (q i : EReal)) : val_main_v104 (F := Ideal) P (ix2 R y) = pool P 16 R C := by
  have hR := R.isLt
  have hg := taken_elem (val_main_v86 (F := Ideal) P) (val_main_v93 (F := Ideal)) R y ⟨R.val + 1 - 16, by omega⟩ (by
    pointwise [val_main_v93, val_main_v92, val_main_v91, val_main_v90, val_main_v89, val_main_v88, val_main_v84, val_main_v83, val_main_v82, val_main_v81, val_main_v8, val_main_v7, val_main_v6, val_main_c_0, val_main_c_16, val_main_c_17, val_main_c_18, val_main_c_19]
    exact start_word R 16 (by decide))
  pointwise [val_main_v104, val_main_v101, val_main_v95, val_main_v87, val_main_v94]
  rw [hg]
  pointwise [val_main_v86, val_main_v85, val_main_v100, val_main_v99, val_main_v98, val_main_v97, val_main_v96, val_main_c_20, val_main_v8, val_main_v7, val_main_v6, val_main_c_0, val_main_v103, val_main_v102, val_main_v2]
  exact pool_of P q 16 (by decide) R 3 y C hC hq _ _ rfl rfl _ (by dsimp only; omega)

/-- The four groups side by side. -/
theorem groups_elem (P : FVec Ideal S16384x1024 .f32) (q : Fin 1024 → ℕ → ℝ) (hq : ∀ C i, col P C i = (q C i : EReal)) (R : Fin 16384) (g : Fin 4) (y : Fin 256) (C : Fin 1024)
    (hC : C.val = 256 * g.val + y.val) : val_main_v109 (F := Ideal) P (ix3 R g y) = pool P (2 ^ (g.val + 1)) R C := by
  match g, hC with
  | ⟨0, _⟩, hC => refine Eq.trans ?_ (pool0 P (q C) R y C hC (hq C)); pointwise [val_main_v109, val_main_v105]
  | ⟨1, _⟩, hC => refine Eq.trans ?_ (pool1 P (q C) R y C hC (hq C)); pointwise [val_main_v109, val_main_v106]
  | ⟨2, _⟩, hC => refine Eq.trans ?_ (pool2 P (q C) R y C hC (hq C)); pointwise [val_main_v109, val_main_v107]
  | ⟨3, _⟩, hC => refine Eq.trans ?_ (pool3 P (q C) R y C hC (hq C)); pointwise [val_main_v109, val_main_v108]

/-- A group's product with its own weights. -/
theorem mixed_elem (P : FVec Ideal S16384x1024 .f32) (wpg : FVec Ideal S4x256x256 .f32) (q : Fin 1024 → ℕ → ℝ) (hq : ∀ C i, col P C i = (q C i : EReal))
    (R : Fin 16384) (g : Fin 4) (y : Fin 256) (C : Fin 1024) (hC : C.val = 256 * g.val + y.val) :
    val_main_v112 (F := Ideal) P wpg (ix2 R C)
      = ∑ k : Fin 256, pool P (2 ^ (g.val + 1)) R ⟨256 * g.val + k.val, by omega⟩ * wpg (ix3 g k y) := by
  have hR := R.isLt
  have hg := g.isLt
  have hy := y.isLt
  rw [val_main_v112_apply, show idx_main_v112 (ix2 R C) = (ix3 R g y : S16384x4x256.Idx) from funext fun a => Fin.ext (by
    match a with
    | ⟨0, _⟩ => show (R.val * 1024 + C.val) / 1024 = R.val; omega
    | ⟨1, _⟩ => show (R.val * 1024 + C.val) / 256 % 4 = g.val; omega
    | ⟨2, _⟩ => show (R.val * 1024 + C.val) % 256 = y.val; omega)]
  pointwise [val_main_v111, val_main_v110]
  refine Finset.sum_congr rfl fun k _ => ?_
  rw [mul_comm, groups_elem P q hq R g k ⟨256 * g.val + k.val, by omega⟩ rfl]

end Cert.MergeRefIdeal.Pool

end

end
-- ==== Proof.MergeValue.lean ====
/-
  The values of the merge: the pooled columns mixed by group, gated against the state-space columns, and projected.

  The kernel takes the rows in tiles of 256 and keeps the tile's pooling columns in a scratch of 272 rows, the last
  sixteen rows of the tile before in front. Row `j` of the scratch at point `t` is row `256 t + j - 16` of the argument, and
  zero above its first row. A window's sum is built by adding the scratch to itself shifted down by 1, 2, 4 and 8 rows.
-/
module

public import proofs.«01_k».proof.Proof.Gen.MergeIdeal.Value
public import proofs.«01_k».proof.Proof.MergePool
public import proofs.«01_k».proof.Proof.Blocks
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MergeIdeal.MergeValue

open Cert.MergeIdeal Cert.MergeIdeal.Gen Cert.Windows
open Cert.MergeRefIdeal.Pool (col pool)

section Elements

/-- The scratch's rows above its first `w` hold window sums of one length; adding them shifted down by that length doubles it. -/
theorem shift_elem (v : FVec Ideal S272x256 .f32) (s : BitVec 32) (w a : ℕ) (hs : s.toNat = w) (hw : w < 272) (y : ℕ → EReal) (k : Fin 256)
    (hv : ∀ j : Fin 272, a ≤ j.val → v (ix2 j k) = back y w j.val) (j : Fin 272) (hj : a + w ≤ j.val) :
    addf (F := Ideal) v (dynamicRotate 0 s none v rotates_S272x256_d0) (ix2 j k) = back y (w + w) j.val := by
  have hj' := j.isLt
  rw [← back_double, ← hv j (by omega), ← hv ⟨j.val - w, by omega⟩ (by show a ≤ j.val - w; omega)]
  refine congrArg (v (ix2 j k) + ·) ?_
  refine dynamicRotate_apply (0 : Fin S272x256.rank) s v rotates_S272x256_d0 (ix2 j k) (ix2 ⟨j.val - w, by omega⟩ k) fun b => ?_
  match b with
  | ⟨0, _⟩ =>
    show j.val - w = (j.val + 272 - s.toNat % 272) % 272
    rw [hs]; omega
  | ⟨1, _⟩ => rfl

/-- A group of columns from its window sums: the mean less the row, times the group's weights. -/
def group (n : IVec S256x1 32) (w : BitVec 32) (acc : FVec Ideal S272x256 .f32) (u : FVec Ideal S256x256 .f32) (g : FVec Ideal S1x256x256 .bf16) : FVec Ideal S256x256 .f32 :=
  matmul (F := Ideal) dot_S256x256_S256x256_S256x256_1_0_0_1_n_n none
    (truncf .bf16 (subf (mulf (extractStridedSlice S256x256 ![16, 0] acc slices_S272x256_o16_0_S256x256)
      (broadcastTo S256x256 (divf (broadcast S256x1 (Scalar.ofBits (F := Ideal) .f32 0x3F800000#32)) (sitofp .f32 (minsi n (broadcast S256x1 w)))) broadcasts_S256x1_S256x256)) u) bitsLt_bf16_f32)
    (shapeCast S256x256 g shapeCasts_S1x256x256_S256x256) (constant (F := Ideal) S256x256 .f32 0x00000000#32)

/-- A scratch column shifted down by `s` rows and added to itself. -/
abbrev shift (s : BitVec 32) (v : FVec Ideal S272x256 .f32) : FVec Ideal S272x256 .f32 := addf (F := Ideal) v (dynamicRotate 0 s none v rotates_S272x256_d0)

theorem pay5_eq (i : grid0.Coords) (v : FVec Ideal S272x256 .f32) (u : FVec Ideal S256x256 .f32) (g : FVec Ideal S1x256x256 .bf16) :
    k0_pay5 (F := Ideal) i v u g = group (k0_pay4 i) 2#32 (shift 1#32 v) u g := rfl

theorem pay8_eq (n : IVec S256x1 32) (v : FVec Ideal S272x256 .f32) (u : FVec Ideal S256x256 .f32) (g : FVec Ideal S1x256x256 .bf16) :
    k0_pay8 (F := Ideal) n (k0_pay6 (F := Ideal) v) (k0_pay7 (F := Ideal) v) u g = group n 4#32 (shift 2#32 (shift 1#32 v)) u g := rfl

theorem pay9_eq (n : IVec S256x1 32) (v : FVec Ideal S272x256 .f32) (u : FVec Ideal S256x256 .f32) (g : FVec Ideal S1x256x256 .bf16) :
    k0_pay9 (F := Ideal) n v u g = group n 8#32 (shift 4#32 (shift 2#32 (shift 1#32 v))) u g := rfl

/-- The four groups side by side, scaled and projected. -/
def project (a b c d : FVec Ideal S256x256 .f32) (s : FVec Ideal S1x1024 .f32) (o : FVec Ideal S1024x1024 .bf16) : FVec Ideal S256x1024 .f32 :=
  matmul (F := Ideal) dot_S256x1024_S1024x1024_S256x1024_1_0_0_1_n_n none
    (truncf .bf16 (mulf (concatenate S256x1024 1 [⟨S256x256, a⟩, ⟨S256x256, b⟩, ⟨S256x256, c⟩, ⟨S256x256, d⟩] concatenates_S256x256_S256x256_S256x256_S256x256_S256x1024_d1)
      (broadcastTo S256x1024 (shapeCast S1x1024 s shapeCasts_S1x1024_S1x1024) broadcasts_S1x1024_S256x1024)) bitsLt_bf16_f32)
    (shapeCast S1024x1024 o shapeCasts_S1024x1024_S1024x1024) (constant (F := Ideal) S256x1024 .f32 0x00000000#32)

theorem pay11_eq (n : IVec S256x1 32) (a b c : FVec Ideal S256x256 .f32) (v : FVec Ideal S272x256 .f32) (u : FVec Ideal S256x256 .f32) (g : FVec Ideal S1x256x256 .bf16)
    (s : FVec Ideal S1x1024 .f32) (o : FVec Ideal S1024x1024 .bf16) :
    k0_pay11 (F := Ideal) n a b c v u g s o = project a b c (group n 16#32 (shift 8#32 (shift 4#32 (shift 2#32 (shift 1#32 v)))) u g) s o := rfl

variable {P : FVec Ideal S16384x1024 .f32}

/-- What the scratch holds in its row `j` at point `t`. -/
def lag (P : FVec Ideal S16384x1024 .f32) (t : ℕ) (C : Fin 1024) (j : ℕ) : EReal := if 16 ≤ 256 * t + j then col P C (256 * t + j - 16) else 0

/-- A window of the scratch is a window of the argument. -/
theorem back_lag (t w : ℕ) (C : Fin 1024) (r R : ℕ) (hR : R = 256 * t + r) (hw : w ≤ 16) : back (lag P t C) w (16 + r) = win (col P C) w R := by
  refine Finset.sum_congr rfl fun k hk => ?_
  have hk := Finset.mem_range.1 hk
  unfold lag
  by_cases h : k ≤ R
  · rw [if_pos (by omega), if_pos h, show 256 * t + (16 + r - k) - 16 = R - k by omega]
  · rw [if_neg (by omega), if_neg h]

/-- A group's element. -/
theorem group_elem {wpg : FVec Ideal S4x256x256 .f32} (n : IVec S256x1 32) (w : ℕ) (acc : FVec Ideal S272x256 .f32) (u : FVec Ideal S256x256 .f32) (gw : FVec Ideal S1x256x256 .bf16)
    (t : ℕ) (r : Fin 256) (R : Fin 16384) (hR : R.val = 256 * t + r.val) (g : Fin 4) (hw0 : 0 < w) (hw : w ≤ 16)
    (hn : n (ix2 r 0) = BitVec.ofNat 32 (R.val + 1))
    (hacc : ∀ (k : Fin 256) (C : Fin 1024), C.val = 256 * g.val + k.val → acc (ix2 ⟨16 + r.val, by omega⟩ k) = back (lag P t C) w (16 + r.val))
    (hu : ∀ (k : Fin 256) (C : Fin 1024), C.val = 256 * g.val + k.val → u (ix2 r k) = P (ix2 R C))
    (hg : ∀ k y : Fin 256, gw (ix3 0 k y) = wpg (ix3 g k y)) (y : Fin 256) :
    group n (BitVec.ofNat 32 w) acc u gw (ix2 r y) = ∑ k : Fin 256, pool P w R ⟨256 * g.val + k.val, by omega⟩ * wpg (ix3 g k y) := by
  have hR' := R.isLt
  pointwise [group]
  refine Finset.sum_congr rfl fun k _ => ?_
  have hm : 0 < min (R.val + 1) w := by omega
  have hne : ((min (R.val + 1) w : ℕ) : ℝ) ≠ 0 := by exact_mod_cast hm.ne'
  rw [hacc k ⟨256 * g.val + k.val, by omega⟩ rfl, hu k ⟨256 * g.val + k.val, by omega⟩ rfl, hg, hn, back_lag t w _ r.val R.val hR hw,
    minsi_small (by omega) (by omega)]
  have hc : FloatOps.sitofp (F := Ideal) FTy.f32 (BitVec.ofNat 32 (min (R.val + 1) w)) = (((min (R.val + 1) w : ℕ) : ℝ) : EReal) := by
    show (((BitVec.ofNat 32 (min (R.val + 1) w)).toInt : ℝ) : EReal) = _
    rw [toInt_small (n := min (R.val + 1) w) (by omega)]
    norm_cast
  rw [hc, Ideal.div_coe hne, one_mul, ← Ideal.div_coe hne]
  rfl

/-- The number of rows up to a row of the tile. -/
theorem rows_elem (t : Fin cfg0.N) (r : Fin 256) : k0_pay4 (grid0.coords t) (ix2 r 0) = BitVec.ofNat 32 (256 * t.val + r.val + 1) := by
  have ht : t.val < 64 := lt_of_lt_of_eq t.isLt (show cfg0.N = 64 from N_0)
  have h : (grid0.coords t 0).val = t.val := (by decide +kernel : ∀ t : Fin grid0.N, (grid0.coords t 0).val = t.val) t
  pointwise [k0_pay4]
  rw [h]
  show BitVec.ofNat 32 t.val * 256#32 + BitVec.ofNat 32 r.val + 1#32 = _
  rw [← BitVec.ofNat_mul, ← BitVec.ofNat_add, ← BitVec.ofNat_add, Nat.mul_comm]

/-- The reference's last steps from the pooled, mixed columns. -/
theorem project_elem (a b c d : FVec Ideal S256x256 .f32) (s : FVec Ideal S1x1024 .f32) (o : FVec Ideal S1024x1024 .bf16)
    (x6 : FVec Ideal S4x256x256 .f32) (x7 : FVec Ideal S1024 .f32) (x8 : FVec Ideal S1024x1024 .f32) (R : Fin 16384) (r : Fin 256)
    (ha : ∀ (y : Fin 256) (C : Fin 1024), C.val = 256 * 0 + y.val → a (ix2 r y) = Cert.MergeRefIdeal.Read.val_main_v112 (F := Ideal) P x6 (ix2 R C))
    (hb : ∀ (y : Fin 256) (C : Fin 1024), C.val = 256 * 1 + y.val → b (ix2 r y) = Cert.MergeRefIdeal.Read.val_main_v112 (F := Ideal) P x6 (ix2 R C))
    (hc : ∀ (y : Fin 256) (C : Fin 1024), C.val = 256 * 2 + y.val → c (ix2 r y) = Cert.MergeRefIdeal.Read.val_main_v112 (F := Ideal) P x6 (ix2 R C))
    (hd : ∀ (y : Fin 256) (C : Fin 1024), C.val = 256 * 3 + y.val → d (ix2 r y) = Cert.MergeRefIdeal.Read.val_main_v112 (F := Ideal) P x6 (ix2 R C))
    (hs : ∀ C : Fin 1024, s (ix2 0 C) = x7 (ix1 C)) (ho : ∀ k C : Fin 1024, o (ix2 k C) = x8 (ix2 k C)) (C : Fin 1024) :
    project a b c d s o (ix2 r C) = Cert.MergeRefIdeal.Read.val_main_v116 (F := Ideal) P x6 x7 x8 (ix2 R C) := by
  unfold Cert.MergeRefIdeal.Read.val_main_v116
  pointwise [project, Cert.MergeRefIdeal.Read.val_main_v115, Cert.MergeRefIdeal.Read.val_main_v114, Cert.MergeRefIdeal.Read.val_main_v113]
  refine Finset.sum_congr rfl fun x _ => ?_
  have hx := x.isLt
  rw [hs, ho]
  congr 2
  by_cases h0 : x.val < 256
  · rw [dif_pos h0]; exact ha _ x (by dsimp only; omega)
  rw [dif_neg h0]
  by_cases h1 : x.val - 256 < 256
  · rw [dif_pos h1]; exact hb _ x (by dsimp only; omega)
  rw [dif_neg h1]
  by_cases h2 : x.val - 256 - 256 < 256
  · rw [dif_pos h2]; exact hc _ x (by dsimp only; omega)
  rw [dif_neg h2]; exact hd _ x (by dsimp only; omega)

/-- The gated sum of the two streams, projected onto the residual. -/
theorem merge_elem (yb : FVec Ideal S256x1024 .f32) (yn : FVec Ideal S256x2048 .bf16) (ws : FVec Ideal S2048x1024 .bf16) (gt : FVec Ideal S256x2048 .f32) (xb : FVec Ideal S256x1024 .f32)
    (mr : FVec Ideal S1x1024 .f32) (wo : FVec Ideal S1024x1024 .bf16)
    (x0 : FVec Ideal S16384x2048 .bf16) (x2 : FVec Ideal S16384x2048 .f32) (x3 : FVec Ideal S16384x1024 .f32) (x4 : FVec Ideal S6x1024 .f32) (x5 : FVec Ideal S2048x1024 .f32)
    (x6 : FVec Ideal S4x256x256 .f32) (x7 : FVec Ideal S1024 .f32) (x8 x9 : FVec Ideal S1024x1024 .f32) (R : Fin 16384) (r : Fin 256)
    (hb : ∀ C, yb (ix2 r C) = Cert.MergeRefIdeal.Read.val_main_v116 (F := Ideal) P x6 x7 x8 (ix2 R C))
    (h0 : ∀ C, yn (ix2 r C) = x0 (ix2 R C)) (h5 : ∀ k C, ws (ix2 k C) = x5 (ix2 k C)) (h2 : ∀ C, gt (ix2 r C) = x2 (ix2 R C)) (h3 : ∀ C, xb (ix2 r C) = x3 (ix2 R C))
    (h4 : ∀ C, mr (ix2 0 C) = x4 (ix2 2 C)) (h9 : ∀ k C, wo (ix2 k C) = x9 (ix2 k C)) (C : Fin 1024) :
    k0_pay1 (F := Ideal) yb yn ws gt xb mr wo (ix2 r C) = Cert.MergeRefIdeal.Read.val_main_v132 (F := Ideal) x0 P x2 x3 x4 x5 x6 x7 x8 x9 (ix2 R C) := by
  pointwise [k0_pay1, Cert.MergeRefIdeal.Read.val_main_v0, Cert.MergeRefIdeal.Read.val_main_v1, Cert.MergeRefIdeal.Read.val_main_v117, Cert.MergeRefIdeal.Read.val_main_v118, Cert.MergeRefIdeal.Read.val_main_v119, Cert.MergeRefIdeal.Read.val_main_v120, Cert.MergeRefIdeal.Read.val_main_v121, Cert.MergeRefIdeal.Read.val_main_v122, Cert.MergeRefIdeal.Read.val_main_v123, Cert.MergeRefIdeal.Read.val_main_v124, Cert.MergeRefIdeal.Read.val_main_v125, Cert.MergeRefIdeal.Read.val_main_v126, Cert.MergeRefIdeal.Read.val_main_v127, Cert.MergeRefIdeal.Read.val_main_v128, Cert.MergeRefIdeal.Read.val_main_v129, Cert.MergeRefIdeal.Read.val_main_v130, Cert.MergeRefIdeal.Read.val_main_v131, Cert.MergeRefIdeal.Read.val_main_v132, Cert.MergeRefIdeal.Read.val_main_cst, Cert.MergeRefIdeal.Read.val_main_cst_21]
  simp only [hb, h0, h5, h2, h3, h4, h9]
  rfl

end Elements

variable (m : (ℓ : Loc nD τ sig) → Buf (Elt Ideal) ℓ)

/-- The windows' index maps, decided over the grid: the five row-tiled windows move down by one block per point, the
    others stay at the origin. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![t.val, 0] :=
  (by decide +kernel : ∀ t : Fin grid0.N, _)

abbrev Yn (c : Dev nD) : FVec Ideal S16384x2048 .bf16 := m ((c : Thread nD τ).loc main_arg0)
abbrev Pq (c : Dev nD) : FVec Ideal S16384x1024 .f32 := m ((c : Thread nD τ).loc main_arg1)
abbrev Gt (c : Dev nD) : FVec Ideal S16384x2048 .f32 := m ((c : Thread nD τ).loc main_arg2)
abbrev Xr (c : Dev nD) : FVec Ideal S16384x1024 .f32 := m ((c : Thread nD τ).loc main_arg3)
abbrev Mo (c : Dev nD) : FVec Ideal S6x1024 .f32 := m ((c : Thread nD τ).loc main_arg4)
abbrev Ws (c : Dev nD) : FVec Ideal S2048x1024 .f32 := m ((c : Thread nD τ).loc main_arg5)
abbrev Wg (c : Dev nD) : FVec Ideal S4x256x256 .f32 := m ((c : Thread nD τ).loc main_arg6)
abbrev Sc (c : Dev nD) : FVec Ideal S1024 .f32 := m ((c : Thread nD τ).loc main_arg7)
abbrev Wp (c : Dev nD) : FVec Ideal S1024x1024 .f32 := m ((c : Thread nD τ).loc main_arg8)
abbrev Wo (c : Dev nD) : FVec Ideal S1024x1024 .f32 := m ((c : Thread nD τ).loc main_arg9)

/-- The state-space projection's weights as the region finds them. -/
theorem ws_read (c : Dev nD) (k : Fin 2048) (y : Fin 1024) : (V m c main_v0 : FVec Ideal S2048x1024 .bf16) (ix2 k y) = Ws m c (ix2 k y) := by
  dsimp only [V, hostOps0]
  entry_read
  pointwise

/-- The groups' weights. -/
theorem wg_read (c : Dev nD) (g : Fin 4) (k y : Fin 256) : (V m c main_v1 : FVec Ideal S4x256x256 .bf16) (ix3 g k y) = Wg m c (ix3 g k y) := by
  dsimp only [V, hostOps0]
  entry_read
  pointwise

/-- The pooled columns' scale as one row. -/
theorem sc_read (c : Dev nD) (y : Fin 1024) : (V m c main_v2 : FVec Ideal S1x1024 .f32) (ix2 0 y) = Sc m c (ix1 y) := by
  dsimp only [V, hostOps0]
  entry_read
  pointwise

/-- The pooled columns' projection. -/
theorem wp_read (c : Dev nD) (k y : Fin 1024) : (V m c main_v3 : FVec Ideal S1024x1024 .bf16) (ix2 k y) = Wp m c (ix2 k y) := by
  dsimp only [V, hostOps0]
  entry_read
  pointwise

/-- The output projection. -/
theorem wo_read (c : Dev nD) (k y : Fin 1024) : (V m c main_v4 : FVec Ideal S1024x1024 .bf16) (ix2 k y) = Wo m c (ix2 k y) := by
  dsimp only [V, hostOps0]
  entry_read
  pointwise

/-- Row `r` of the state-space stream at point `t`. -/
theorem in0 (c : Dev nD) (t : Fin cfg0.N) (r : Fin 256) (R : Fin 16384) (hR : R.val = 256 * t.val + r.val) (y : Fin 2048) :
    (iblk m c 0 t : FVec Ideal S256x2048 .bf16) (ix2 r y) = Yn m c (ix2 R y) := by
  blk_point [iblk, V, idx t]

/-- Row `r` of the pooling columns. -/
theorem in1 (c : Dev nD) (t : Fin cfg0.N) (r : Fin 256) (R : Fin 16384) (hR : R.val = 256 * t.val + r.val) (y : Fin 1024) :
    (iblk m c 1 t : FVec Ideal S256x1024 .f32) (ix2 r y) = Pq m c (ix2 R y) := by
  blk_point [iblk, V, idx t]

/-- Row `r` of the gates. -/
theorem in2 (c : Dev nD) (t : Fin cfg0.N) (r : Fin 256) (R : Fin 16384) (hR : R.val = 256 * t.val + r.val) (y : Fin 2048) :
    (iblk m c 2 t : FVec Ideal S256x2048 .f32) (ix2 r y) = Gt m c (ix2 R y) := by
  blk_point [iblk, V, idx t]

/-- Row `r` of the residual. -/
theorem in3 (c : Dev nD) (t : Fin cfg0.N) (r : Fin 256) (R : Fin 16384) (hR : R.val = 256 * t.val + r.val) (y : Fin 1024) :
    (iblk m c 3 t : FVec Ideal S256x1024 .f32) (ix2 r y) = Xr m c (ix2 R y) := by
  blk_point [iblk, V, idx t]

/-- The modulation's rows. -/
theorem in4 (c : Dev nD) (t : Fin cfg0.N) (k : Fin 6) (y : Fin 1024) :
    (iblk m c 4 t : FVec Ideal S6x1024 .f32) (ix2 k y) = Mo m c (ix2 k y) := by
  blk_point [iblk, V, idx t]

/-- The state-space projection, held whole at every point. -/
theorem in5 (c : Dev nD) (t : Fin cfg0.N) (k : Fin 2048) (y : Fin 1024) : (iblk m c 5 t : FVec Ideal S2048x1024 .bf16) (ix2 k y) = Ws m c (ix2 k y) := by
  blk_simp [iblk]
  rw [show ((win0_5.blk t).view.emb (ix2 k y) : S2048x1024.Idx) = (ix2 k y) from by blk_ext [idx t]]
  exact ws_read m c k y

/-- The groups' weights, held whole at every point. -/
theorem in6 (c : Dev nD) (t : Fin cfg0.N) (g : Fin 4) (k y : Fin 256) : (iblk m c 6 t : FVec Ideal S4x256x256 .bf16) (ix3 g k y) = Wg m c (ix3 g k y) := by
  blk_simp [iblk]
  rw [show ((win0_6.blk t).view.emb (ix3 g k y) : S4x256x256.Idx) = (ix3 g k y) from by blk_ext [idx t]]
  exact wg_read m c g k y

/-- The scale, held whole at every point. -/
theorem in7 (c : Dev nD) (t : Fin cfg0.N) (y : Fin 1024) : (iblk m c 7 t : FVec Ideal S1x1024 .f32) (ix2 0 y) = Sc m c (ix1 y) := by
  blk_simp [iblk]
  rw [show ((win0_7.blk t).view.emb (ix2 0 y) : S1x1024.Idx) = (ix2 0 y) from by blk_ext [idx t]]
  exact sc_read m c y

/-- The pooled columns' projection, held whole at every point. -/
theorem in8 (c : Dev nD) (t : Fin cfg0.N) (k y : Fin 1024) : (iblk m c 8 t : FVec Ideal S1024x1024 .bf16) (ix2 k y) = Wp m c (ix2 k y) := by
  blk_simp [iblk]
  rw [show ((win0_8.blk t).view.emb (ix2 k y) : S1024x1024.Idx) = (ix2 k y) from by blk_ext [idx t]]
  exact wp_read m c k y

/-- The output projection, held whole at every point. -/
theorem in9 (c : Dev nD) (t : Fin cfg0.N) (k y : Fin 1024) : (iblk m c 9 t : FVec Ideal S1024x1024 .bf16) (ix2 k y) = Wo m c (ix2 k y) := by
  blk_simp [iblk]
  rw [show ((win0_9.blk t).view.emb (ix2 k y) : S1024x1024.Idx) = (ix2 k y) from by blk_ext [idx t]]
  exact wo_read m c k y

/-- The residual's modulation row as the body loads it. -/
theorem ld4 (c : Dev nD) (t : Fin cfg0.N) (inb : ∀ a : Fin 2, (![2, 0] : Fin 2 → ℕ) a + (![1, 1024] : Fin 2 → ℕ) a ≤ S6x1024.size a) (y : Fin 1024) :
    View.ld (iblk m c 4 t) (Rect.unit (s := S6x1024) ![2, 0] ![1, 1024] inb) (ix2 0 y) = Mo m c (ix2 2 y) :=
  (Blocks.ld_at (H := 6) (D := 1024) (W := 1) (E := 1024) inb (iblk m c 4 t) 2 y 0 y rfl (Nat.zero_add _).symm).trans (in4 m c t 2 y)

/-- A group's columns of the tile as the body loads them. -/
theorem ld1 (c : Dev nD) (t : Fin cfg0.N) (g : Fin 4) (inb : ∀ a : Fin 2, (![0, 256 * g.val] : Fin 2 → ℕ) a + (![256, 256] : Fin 2 → ℕ) a ≤ S256x1024.size a)
    (r : Fin 256) (R : Fin 16384) (hR : R.val = 256 * t.val + r.val) (k : Fin 256) (C : Fin 1024) (hC : C.val = 256 * g.val + k.val) :
    View.ld (iblk m c 1 t) (Rect.unit (s := S256x1024) ![0, 256 * g.val] ![256, 256] inb) (ix2 r k) = Pq m c (ix2 R C) :=
  (Blocks.ld_at (H := 256) (D := 1024) (W := 256) (E := 256) inb (iblk m c 1 t) r C r k (Nat.zero_add _).symm hC).trans (in1 m c t r R hR C)

/-- A group's weights as the body loads them. -/
theorem ld6 (c : Dev nD) (t : Fin cfg0.N) (g : Fin 4) (inb : ∀ a : Fin 3, (![g.val, 0, 0] : Fin 3 → ℕ) a + (![1, 256, 256] : Fin 3 → ℕ) a ≤ S4x256x256.size a)
    (k y : Fin 256) : View.ld (iblk m c 6 t) (Rect.unit (s := S4x256x256) ![g.val, 0, 0] ![1, 256, 256] inb) (ix3 0 k y) = Wg m c (ix3 g k y) := by
  refine Eq.trans (congrArg (iblk m c 6 t) ?_) (in6 m c t g k y)
  funext a
  refine Fin.ext ?_
  fin_cases a
  · rfl
  · show 0 + 1 * k.val = k.val; omega
  · show 0 + 1 * y.val = y.val; omega

/-- What a point leaves in the scratch's first sixteen rows: the last sixteen rows of its tile. -/
theorem head (c : Dev nD) (t : Fin cfg0.N) (r : Fin 272) (hr : r.val < 16) (C : Fin 1024) :
    (outsAt0 m c t.val t.isLt).2 (ix2 r C) = (iblk m c 1 t : FVec Ideal S256x1024 .f32) (ix2 ⟨240 + r.val, by omega⟩ C) := by
  by_cases h0 : t.val % 64 = 0
  · rw [outsAt0_A m c t h0]; dsimp only; frame_out
    refine (Blocks.canon_in _ _ _ r C ⟨r.val, hr⟩ C (Nat.zero_add _).symm (Nat.zero_add _).symm).trans ?_
    unfold k0_pay10 k0_pay3
    simp only [shapeCast_self]
    refine (Blocks.readCov_at _ _ _ ⟨256 + r.val, by omega⟩ C ⟨r.val, hr⟩ C rfl (Nat.zero_add _).symm).trans ?_
    exact Blocks.canon_in _ _ _ _ C ⟨240 + r.val, by omega⟩ C (by show 256 + r.val = 16 + (240 + r.val); omega) (Nat.zero_add _).symm
  · rw [outsAt0_B m c t h0]; dsimp only; frame_out
    refine (Blocks.canon_in _ _ _ r C ⟨r.val, hr⟩ C (Nat.zero_add _).symm (Nat.zero_add _).symm).trans ?_
    unfold k0_pay10 k0_pay3
    simp only [shapeCast_self]
    refine (Blocks.readCov_at _ _ _ ⟨256 + r.val, by omega⟩ C ⟨r.val, hr⟩ C rfl (Nat.zero_add _).symm).trans ?_
    exact Blocks.canon_in _ _ _ _ C ⟨240 + r.val, by omega⟩ C (by show 256 + r.val = 16 + (240 + r.val); omega) (Nat.zero_add _).symm

/-- A row of a tile is the argument's row. -/
theorem tile_elem (c : Dev nD) (t : Fin cfg0.N) (r : Fin 256) (C : Fin 1024) (i : ℕ) (hi : i = 256 * t.val + r.val) :
    (iblk m c 1 t : FVec Ideal S256x1024 .f32) (ix2 r C) = col (Pq m c) C i := by
  have ht : t.val < 64 := lt_of_lt_of_eq t.isLt (show cfg0.N = 64 from N_0)
  subst hi
  exact (in1 m c t r ⟨256 * t.val + r.val, by omega⟩ rfl C).trans (Cert.MergeRefIdeal.Pool.col_at (Pq m c) C ⟨256 * t.val + r.val, by omega⟩).symm

/-- At the first point the scratch is zero rows, then the tile. -/
theorem lag_first (c : Dev nD) (t : Fin cfg0.N) (h0 : t.val % 64 = 0) (g : Fin 4)
    (inb : ∀ a : Fin 2, (![0, 256 * g.val] : Fin 2 → ℕ) a + (![272, 256] : Fin 2 → ℕ) a ≤ S272x1024.size a)
    (j : Fin 272) (k : Fin 256) (C : Fin 1024) (hC : C.val = 256 * g.val + k.val) :
    (View.whole cc0_scratch0).readCov
        [(⟨Rect.unit (s := S272x1024) ![16, 0] ![256, 1024] inb_S272x1024_S256x1024_16_0, k0_pay3 (F := Ideal) (iblk m c 1 t)⟩ : View.Piece (Elt Ideal) S272x1024 .f32),
          (⟨Rect.unit (s := S272x1024) ![0, 0] ![16, 1024] inb_S272x1024_S16x1024_0_0, k0_pay2 (F := Ideal)⟩ : View.Piece (Elt Ideal) S272x1024 .f32)]
        (Rect.unit (s := S272x1024) ![0, 256 * g.val] ![272, 256] inb).toLoadRect (ix2 j k)
      = lag (Pq m c) t.val C j.val := by
  have ht : t.val < 64 := lt_of_lt_of_eq t.isLt (show cfg0.N = 64 from N_0)
  refine (Blocks.readCov_at _ _ _ j C j k (Nat.zero_add _).symm hC).trans ?_
  unfold lag
  by_cases h : 16 ≤ j.val
  · rw [if_pos (by omega)]
    refine (Blocks.canon_in _ _ _ _ C ⟨j.val - 16, by omega⟩ C (by show j.val = 16 + (j.val - 16); omega) (Nat.zero_add _).symm).trans ?_
    unfold k0_pay3
    simp only [shapeCast_self]
    exact tile_elem m c t _ C _ (by dsimp only; omega)
  · rw [if_neg (by omega)]
    have h16 : j.val < 16 := by omega
    refine (Blocks.canon_out (Val := Elt Ideal) (e := .f32) inb_S272x1024_S256x1024_16_0 (k0_pay3 (F := Ideal) (iblk m c 1 t)) _ j C (Or.inl h16)).trans ?_
    refine (Blocks.canon_in (Val := Elt Ideal) (e := .f32) inb_S272x1024_S16x1024_0_0 (k0_pay2 (F := Ideal)) [] j C ⟨j.val, h16⟩ C (Nat.zero_add _).symm (Nat.zero_add _).symm).trans ?_
    pointwise [k0_pay2]

/-- At a later point the scratch is the last sixteen rows of the tile before, then the tile. -/
theorem lag_later (c : Dev nD) (t : Fin cfg0.N) (h0 : ¬ t.val % 64 = 0) (g : Fin 4)
    (inb : ∀ a : Fin 2, (![0, 256 * g.val] : Fin 2 → ℕ) a + (![272, 256] : Fin 2 → ℕ) a ≤ S272x1024.size a)
    (hw : (Memref.whole cc0_scratch0).IsWhole) (hlt : t.val - 1 < cfg0.N)
    (j : Fin 272) (k : Fin 256) (C : Fin 1024) (hC : C.val = 256 * g.val + k.val) :
    View.ld (View.read (Elt Ideal) (View.whole cc0_scratch0)
        ((View.whole cc0_scratch0).writes (Elt Ideal) (hw.unread (outsAt0 m c (t.val - 1) hlt).2) [(⟨Rect.unit (s := S272x1024) ![16, 0] ![256, 1024] inb_S272x1024_S256x1024_16_0, k0_pay3 (F := Ideal) (iblk m c 1 t)⟩ : View.Piece (Elt Ideal) S272x1024 .f32)]))
        (Rect.unit (s := S272x1024) ![0, 256 * g.val] ![272, 256] inb) (ix2 j k)
      = lag (Pq m c) t.val C j.val := by
  have ht : t.val < 64 := lt_of_lt_of_eq t.isLt (show cfg0.N = 64 from N_0)
  refine (Blocks.ld_at inb _ j C j k (Nat.zero_add _).symm hC).trans ?_
  unfold lag
  rw [if_pos (by omega)]
  by_cases h : 16 ≤ j.val
  · refine (Blocks.read_in _ _ _ _ _ _ C ⟨j.val - 16, by omega⟩ C (by show j.val = 16 + (j.val - 16); omega) (Nat.zero_add _).symm).trans ?_
    unfold k0_pay3
    simp only [shapeCast_self]
    exact tile_elem m c t _ C _ (by dsimp only; omega)
  · have h16 : j.val < 16 := by omega
    refine (Blocks.read_out _ _ _ _ _ _ C (Or.inl h16)).trans ?_
    refine (congrFun (hw.read_unread (outsAt0 m c (t.val - 1) hlt).2) _).trans ?_
    refine (head m c ⟨t.val - 1, hlt⟩ j h16 C).trans ?_
    exact tile_elem m c ⟨t.val - 1, hlt⟩ _ C _ (by dsimp only; omega)

/-- One output element of a tile, from any reads of the scratch with those rows. -/
theorem elem10 (c : Dev nD) (q : Fin 1024 → ℕ → ℝ) (hq : ∀ C i, col (Pq m c) C i = (q C i : EReal)) (t : Fin cfg0.N) (r : Fin 256) (C : Fin 1024) (R : Fin 16384) (hR : R.val = 256 * t.val + r.val)
    (a0 a1 a2 a3 : FVec Ideal S272x256 .f32)
    (h0 : ∀ (j : Fin 272) (k : Fin 256) (C : Fin 1024), C.val = 256 * 0 + k.val → a0 (ix2 j k) = lag (Pq m c) t.val C j.val)
    (h1 : ∀ (j : Fin 272) (k : Fin 256) (C : Fin 1024), C.val = 256 * 1 + k.val → a1 (ix2 j k) = lag (Pq m c) t.val C j.val)
    (h2 : ∀ (j : Fin 272) (k : Fin 256) (C : Fin 1024), C.val = 256 * 2 + k.val → a2 (ix2 j k) = lag (Pq m c) t.val C j.val)
    (h3 : ∀ (j : Fin 272) (k : Fin 256) (C : Fin 1024), C.val = 256 * 3 + k.val → a3 (ix2 j k) = lag (Pq m c) t.val C j.val) :
    k0_pay1 (F := Ideal)
      (k0_pay11 (F := Ideal) (k0_pay4 (grid0.coords t))
        (k0_pay5 (F := Ideal) (grid0.coords t) a0 (View.ld (iblk m c 1 t) (Rect.unit (s := S256x1024) ![0, 0] ![256, 256] inb_S256x1024_S256x256_0_0))
          (View.ld (iblk m c 6 t) (Rect.unit (s := S4x256x256) ![0, 0, 0] ![1, 256, 256] inb_S4x256x256_S1x256x256_0_0_0)))
        (k0_pay8 (F := Ideal) (k0_pay4 (grid0.coords t)) (k0_pay6 (F := Ideal) a1) (k0_pay7 (F := Ideal) a1)
          (View.ld (iblk m c 1 t) (Rect.unit (s := S256x1024) ![0, 256] ![256, 256] inb_S256x1024_S256x256_0_256))
          (View.ld (iblk m c 6 t) (Rect.unit (s := S4x256x256) ![1, 0, 0] ![1, 256, 256] inb_S4x256x256_S1x256x256_1_0_0)))
        (k0_pay9 (F := Ideal) (k0_pay4 (grid0.coords t)) a2
          (View.ld (iblk m c 1 t) (Rect.unit (s := S256x1024) ![0, 512] ![256, 256] inb_S256x1024_S256x256_0_512))
          (View.ld (iblk m c 6 t) (Rect.unit (s := S4x256x256) ![2, 0, 0] ![1, 256, 256] inb_S4x256x256_S1x256x256_2_0_0)))
        a3 (View.ld (iblk m c 1 t) (Rect.unit (s := S256x1024) ![0, 768] ![256, 256] inb_S256x1024_S256x256_0_768))
        (View.ld (iblk m c 6 t) (Rect.unit (s := S4x256x256) ![3, 0, 0] ![1, 256, 256] inb_S4x256x256_S1x256x256_3_0_0)) (iblk m c 7 t) (iblk m c 8 t))
      (iblk m c 0 t) (iblk m c 5 t) (iblk m c 2 t) (iblk m c 3 t)
      (View.ld (iblk m c 4 t) (Rect.unit (s := S6x1024) ![2, 0] ![1, 1024] inb_S6x1024_S1x1024_2_0)) (iblk m c 9 t) (ix2 r C)
      = Cert.MergeRefIdeal.Read.val_main_v132 (F := Ideal) (Yn m c) (Pq m c) (Gt m c) (Xr m c) (Mo m c) (Ws m c) (Wg m c) (Sc m c) (Wp m c) (Wo m c) (ix2 R C) := by
  have hr := r.isLt
  have hn : k0_pay4 (grid0.coords t) (ix2 r 0) = BitVec.ofNat 32 (R.val + 1) := (rows_elem t r).trans (by rw [hR])
  have s1 : ∀ (v : FVec Ideal S272x256 .f32) (k : Fin 256) (y : ℕ → EReal) (_ : ∀ j : Fin 272, v (ix2 j k) = y j.val) (j : Fin 272) (_ : 1 ≤ j.val), shift 1#32 v (ix2 j k) = back y 2 j.val :=
    fun v k y h j hj => shift_elem v 1#32 1 0 rfl (by omega) y k (fun j _ => (h j).trans (back_one y j.val).symm) j (by omega)
  have s2 : ∀ (v : FVec Ideal S272x256 .f32) (k : Fin 256) (y : ℕ → EReal) (_ : ∀ j : Fin 272, v (ix2 j k) = y j.val) (j : Fin 272) (_ : 3 ≤ j.val), shift 2#32 (shift 1#32 v) (ix2 j k) = back y 4 j.val :=
    fun v k y h j hj => shift_elem _ 2#32 2 1 rfl (by omega) y k (fun j hj => s1 v k y h j hj) j (by omega)
  have s3 : ∀ (v : FVec Ideal S272x256 .f32) (k : Fin 256) (y : ℕ → EReal) (_ : ∀ j : Fin 272, v (ix2 j k) = y j.val) (j : Fin 272) (_ : 7 ≤ j.val), shift 4#32 (shift 2#32 (shift 1#32 v)) (ix2 j k) = back y 8 j.val :=
    fun v k y h j hj => shift_elem _ 4#32 4 3 rfl (by omega) y k (fun j hj => s2 v k y h j hj) j (by omega)
  have s4 : ∀ (v : FVec Ideal S272x256 .f32) (k : Fin 256) (y : ℕ → EReal) (_ : ∀ j : Fin 272, v (ix2 j k) = y j.val) (j : Fin 272) (_ : 15 ≤ j.val), shift 8#32 (shift 4#32 (shift 2#32 (shift 1#32 v))) (ix2 j k) = back y 16 j.val :=
    fun v k y h j hj => shift_elem _ 8#32 8 7 rfl (by omega) y k (fun j hj => s3 v k y h j hj) j (by omega)
  rw [pay5_eq, pay8_eq, pay9_eq, pay11_eq]
  refine merge_elem _ _ _ _ _ _ _ _ _ _ _ _ _ _ _ _ R r (fun C => ?_) (in0 m c t r R hR) (in5 m c t) (in2 m c t r R hR) (in3 m c t r R hR) (ld4 m c t _) (in9 m c t) C
  refine project_elem _ _ _ _ _ _ _ _ _ R r (fun y C hC => ?_) (fun y C hC => ?_) (fun y C hC => ?_) (fun y C hC => ?_) (in7 m c t) (in8 m c t) C
  · refine Eq.trans ?_ (Cert.MergeRefIdeal.Pool.mixed_elem (Pq m c) (Wg m c) q hq R 0 y C hC).symm
    exact group_elem (wpg := Wg m c) _ 2 _ _ _ t.val r R hR 0 (by omega) (by omega) hn (fun k C hC => s1 _ k _ (fun j => h0 j k C hC) _ (by dsimp only; omega)) (fun k C hC => ld1 m c t 0 _ r R hR k C hC) (ld6 m c t 0 _) y
  · refine Eq.trans ?_ (Cert.MergeRefIdeal.Pool.mixed_elem (Pq m c) (Wg m c) q hq R 1 y C hC).symm
    exact group_elem (wpg := Wg m c) _ 4 _ _ _ t.val r R hR 1 (by omega) (by omega) hn (fun k C hC => s2 _ k _ (fun j => h1 j k C hC) _ (by dsimp only; omega)) (fun k C hC => ld1 m c t 1 _ r R hR k C hC) (ld6 m c t 1 _) y
  · refine Eq.trans ?_ (Cert.MergeRefIdeal.Pool.mixed_elem (Pq m c) (Wg m c) q hq R 2 y C hC).symm
    exact group_elem (wpg := Wg m c) _ 8 _ _ _ t.val r R hR 2 (by omega) (by omega) hn (fun k C hC => s3 _ k _ (fun j => h2 j k C hC) _ (by dsimp only; omega)) (fun k C hC => ld1 m c t 2 _ r R hR k C hC) (ld6 m c t 2 _) y
  · refine Eq.trans ?_ (Cert.MergeRefIdeal.Pool.mixed_elem (Pq m c) (Wg m c) q hq R 3 y C hC).symm
    exact group_elem (wpg := Wg m c) _ 16 _ _ _ t.val r R hR 3 (by omega) (by omega) hn (fun k C hC => s4 _ k _ (fun j => h3 j k C hC) _ (by dsimp only; omega)) (fun k C hC => ld1 m c t 3 _ r R hR k C hC) (ld6 m c t 3 _) y

/-- The kernel's result after the run, where the pooling columns are finite. -/
theorem final10 (c : Dev nD) (q : Fin 1024 → ℕ → ℝ) (hq : ∀ C i, col (Pq m c) C i = (q C i : EReal)) : (dats m 0 c).arrAt 10 (cfgs 0).N
    = Cert.MergeRefIdeal.Read.val_main_v132 (F := Ideal) (Yn m c) (Pq m c) (Gt m c) (Xr m c) (Mo m c) (Ws m c) (Wg m c) (Sc m c) (Wp m c) (Wo m c) := by
  refine (dats m 0 c).arrAt_eq_of_covers 10 _ (by decide +kernel) fun t _ y => ?_
  blk_simp
  have hlt := lt_of_lt_of_eq t.isLt (show cfg0.N = 64 from N_0)
  by_cases h0 : t.val % 64 = 0
  · rw [after0_10, outsAt0_A m c t h0]; dsimp only; frame_out
    idx_vars y
    have hr : 256 * t.val + y0.val < 16384 := by have := y0.isLt; omega
    rw [show ((View.whole main_v5).slice (win0_10.rect t)).emb (ix2 y0 y1) = (ix2 ⟨256 * t.val + y0.val, hr⟩ y1 : S16384x1024.Idx) from by
      blk_ext [idx t]]
    exact elem10 m c q hq t y0 y1 _ rfl _ _ _ _ (lag_first m c t h0 0 _) (lag_first m c t h0 1 _) (lag_first m c t h0 2 _) (lag_first m c t h0 3 _)
  · rw [after0_10, outsAt0_B m c t h0]; dsimp only; frame_out
    idx_vars y
    have hr : 256 * t.val + y0.val < 16384 := by have := y0.isLt; omega
    rw [show ((View.whole main_v5).slice (win0_10.rect t)).emb (ix2 y0 y1) = (ix2 ⟨256 * t.val + y0.val, hr⟩ y1 : S16384x1024.Idx) from by
      blk_ext [idx t]]
    exact elem10 m c q hq t y0 y1 _ rfl _ _ _ _ (lag_later m c t h0 0 _ _ _) (lag_later m c t h0 1 _ _ _) (lag_later m c t h0 2 _ _ _) (lag_later m c t h0 3 _ _ _)

end Cert.MergeIdeal.MergeValue
end
end
-- ==== Proof.MergeClaim.lean ====
/- The claims about the merge: the frames of the kernel, its idealization and its reference, and the equality of their
   results over the extended reals where the pooling columns are finite (`MergeValue`'s equation read through the two
   runs). -/
module

public import proofs.«01_k».proof.Defs
public import proofs.«01_k».proof.Proof.MergeValue
public import proofs.«01_k».proof.Proof.Gen.Merge.Frame
public import proofs.«01_k».proof.Proof.Gen.MergeIdeal.Frame
public import proofs.«01_k».proof.Proof.Gen.MergeRefIdeal.Run
public import Idealize.ShloMosaic.Lib.Claim

@[expose] public section

set_option maxRecDepth 16384

noncomputable section

open Idealize.ShloMosaic Idealize.SL.Sem

namespace Cert.MergeClaim

/-- The precondition compares a column with a scalar spread over it. -/
theorem pre_facts : Cert.Pre_p_finite.Facts := ⟨by decide⟩

attribute [local instance] pre_facts

theorem frame_p : Cert.quiescent_Merge := fun m ρ _ => Cert.Merge.Gen.frame m ρ
theorem frame_pi : Cert.quiescent_MergeIdeal := fun m ρ _ => Cert.MergeIdeal.Gen.frame m ρ
theorem frame_pi_finite : Cert.quiescent_MergeIdeal_pre_p_finite := fun m ρ _ => Cert.MergeIdeal.Gen.frame m ρ

/-- The reference has no counters at all; its arguments end unchanged by its run. -/
theorem frame_ri : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

theorem frame_ri_finite : Cert.quiescent_MergeRefIdeal_pre_p_finite := fun m ρ _ => frame_ri m ρ trivial

/-- An element below positive infinity in absolute value is a real. -/
theorem coe_toReal_of_finite (x : EReal) (h : Ideal.cmp .olt (max x (-x)) (Ideal.ofBits .f32 0x7F800000#32) = 1#1) : ((x.toReal : ℝ) : EReal) = x := by
  have ht : Ideal.ofBits .f32 0x7F800000#32 = (⊤ : EReal) := by
    simp [Ideal.ofBits, Ideal.ieee]
  rw [ht] at h
  induction x using EReal.rec with
  | bot => exact absurd h (by simp [Ideal.cmp])
  | coe x => simp
  | top => exact absurd h (by simp [Ideal.cmp])

/-- Where the precondition holds every pooling column is real. -/
theorem column_real (m : (ℓ : Loc Cert.MergeIdeal.nD Cert.MergeIdeal.τ Cert.MergeIdeal.sig) → Buf (Elt Ideal) ℓ) (hm : Cert.Pre_MergeIdeal_p_finite m) (c : Dev Cert.MergeIdeal.nD)
    (C : Fin 1024) (i : ℕ) : Cert.MergeRefIdeal.Pool.col (Cert.MergeIdeal.MergeValue.Pq m c) C i = (((Cert.MergeRefIdeal.Pool.col (Cert.MergeIdeal.MergeValue.Pq m c) C i).toReal : ℝ) : EReal) := by
  by_cases h : i < 16384
  · refine (coe_toReal_of_finite _ ?_).symm
    rw [Cert.MergeRefIdeal.Pool.col_at _ C ⟨i, h⟩]
    exact congrFun (hm c) (ix2 ⟨i, h⟩ C)
  · unfold Cert.MergeRefIdeal.Pool.col
    rw [dif_neg h]; simp

set_option maxHeartbeats 1600000 in
/-- The array the kernel writes is the reference's result. -/
theorem algebraic : Cert.algebraic_MergeIdeal_MergeRefIdeal_pre_p_finite := by
  pair_intro
  · run_from Cert.MergeIdeal.Gen.run_main m g
  · refine (θ_run Cert.MergeRefIdeal.defs _ _).mono (fun _ h c => ?_) (Cert.MergeRefIdeal.Value.run (F := Ideal) m' g')
    obtain ⟨h9, ha⟩ := h c
    refine ⟨(h9.trans (Cert.MergeRefIdeal.Read.val_main_v132_eq m' c)).trans ?_, ha⟩
    obtain ⟨e0, e1, e2, e3, e4, e5, e6, e7, e8, e9⟩ := hagree c
    rw [e0, e1, e2, e3, e4, e5, e6, e7, e8, e9]
    exact (Cert.MergeIdeal.MergeValue.final10 m c _ (column_real m ‹_› c)).symm

end Cert.MergeClaim

end

end
-- ==== Proof.AdaValue.lean ====
/-
  The values of the modulation: six column blocks of one matrix product with the gated conditioning row.

  The kernel repeats the row eight times for its product and keeps the first row of it.
-/
module

public import proofs.«01_k».proof.Proof.Gen.AdaIdeal.Value
public import proofs.«01_k».proof.Proof.Gen.AdaRefIdeal.Read
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.AdaIdeal.AdaValue

open Cert.AdaIdeal Cert.AdaIdeal.Gen

variable (m : (ℓ : Loc nD τ sig) → Buf (Elt Ideal) ℓ)

/-- The windows' index maps, decided over the grid: the weights, the bias and the result move right by one block. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

abbrev Co (c : Dev nD) : FVec Ideal S1x1024 .f32 := m ((c : Thread nD τ).loc main_arg0)
abbrev Wa (c : Dev nD) : FVec Ideal S1024x6144 .f32 := m ((c : Thread nD τ).loc main_arg1)
abbrev Ba (c : Dev nD) : FVec Ideal S6144 .f32 := m ((c : Thread nD τ).loc main_arg2)

/-- The bias as the region finds it: the argument as one row. -/
theorem bias_read (c : Dev nD) (y : Fin 6144) : (V m c main_v0 : FVec Ideal S1x6144 .f32) (ix2 0 y) = Ba m c (ix1 y) := by
  dsimp only [V, hostOps0]
  entry_read
  pointwise

/-- The conditioning row. -/
theorem in0 (c : Dev nD) (t : Fin cfg0.N) (y : Fin 1024) : (iblk m c 0 t : FVec Ideal S1x1024 .f32) (ix2 0 y) = Co m c (ix2 0 y) := by
  blk_point [iblk, V, idx t]

/-- A block of the weights' columns. -/
theorem in1 (c : Dev nD) (t : Fin cfg0.N) (x y : Fin 1024) (Y : Fin 6144) (hY : Y.val = 1024 * t.val + y.val) :
    (iblk m c 1 t : FVec Ideal S1024x1024 .f32) (ix2 x y) = Wa m c (ix2 x Y) := by
  blk_point [iblk, V, idx t]

/-- A block of the bias. -/
theorem in2 (c : Dev nD) (t : Fin cfg0.N) (y : Fin 1024) (Y : Fin 6144) (hY : Y.val = 1024 * t.val + y.val) :
    (iblk m c 2 t : FVec Ideal S1x1024 .f32) (ix2 0 y) = Ba m c (ix1 Y) := by
  blk_simp [iblk]
  rw [show ((win0_2.blk t).view.emb (ix2 0 y) : S1x6144.Idx) = (ix2 0 Y) from by blk_ext [idx t]]
  exact bias_read m c Y

/-- One element over any blocks whose elements are those of the arguments. -/
theorem elem {co : FVec Ideal S1x1024 .f32} {wa : FVec Ideal S1024x6144 .f32} {ba : FVec Ideal S6144 .f32}
    (b0 : FVec Ideal S1x1024 .f32) (b1 : FVec Ideal S1024x1024 .f32) (b2 : FVec Ideal S1x1024 .f32) (y : Fin 1024) (Y : Fin 6144)
    (h0 : ∀ x, b0 (ix2 0 x) = co (ix2 0 x)) (h1 : ∀ x, b1 (ix2 x y) = wa (ix2 x Y)) (h2 : b2 (ix2 0 y) = ba (ix1 Y)) :
    k0_pay1 (F := Ideal) b0 b1 b2 (ix2 0 y) = Cert.AdaRefIdeal.Read.val_main_v3 (F := Ideal) co wa ba (ix2 0 Y) := by
  pointwise [k0_pay1, Cert.AdaRefIdeal.Read.val_main_v3, Cert.AdaRefIdeal.Read.val_main_v2, Cert.AdaRefIdeal.Read.val_main_v1, Cert.AdaRefIdeal.Read.val_main_v0,
    Cert.AdaRefIdeal.Read.val_main_call0_v0, Cert.AdaRefIdeal.Read.val_main_call0_v1, Cert.AdaRefIdeal.Read.val_main_call0_v2, Cert.AdaRefIdeal.Read.val_main_call0_v3,
    Cert.AdaRefIdeal.Read.val_main_call0_v4, Cert.AdaRefIdeal.Read.val_main_call0_v5, Cert.AdaRefIdeal.Read.val_main_call0_cst, Cert.AdaRefIdeal.Read.val_main_call0_cst_0]
  simp only [h0, h1, h2]
  rfl

/-- The modulation after the run. -/
theorem final3 (c : Dev nD) : (dats m 0 c).arrAt 3 (cfgs 0).N
    = Cert.AdaRefIdeal.Read.val_main_v3 (F := Ideal) (Co m c) (Wa m c) (Ba m c) := by
  refine (dats m 0 c).arrAt_eq_of_covers 3 _ (by decide +kernel) fun t _ y => ?_
  blk_simp
  rw [after0_3]; frame_out
  idx_vars y
  have hr : 1024 * t.val + y1.val < 6144 := by
    have := lt_of_lt_of_eq t.isLt (show cfg0.N = 6 from N_0); have := y1.isLt; omega
  obtain rfl : y0 = 0 := Subsingleton.elim _ _
  rw [show ((View.whole main_v1).slice (win0_3.rect t)).emb (ix2 0 y1) = (ix2 0 ⟨1024 * t.val + y1.val, hr⟩ : S1x6144.Idx) from by
    blk_ext [idx t]]
  exact elem _ _ _ y1 _ (in0 m c t) (fun x => in1 m c t x y1 _ rfl) (in2 m c t y1 _ rfl)

end Cert.AdaIdeal.AdaValue
end
end
-- ==== Proof.AdaClaim.lean ====
/- The claims about the modulation call: the frames of the kernel, its idealization and its reference, and the
   equality of their result over the extended reals (`AdaValue`'s equations read through the two runs). -/
module

public import proofs.«01_k».proof.Defs
public import proofs.«01_k».proof.Proof.AdaValue
public import proofs.«01_k».proof.Proof.Gen.Ada.Frame
public import proofs.«01_k».proof.Proof.Gen.AdaIdeal.Frame
public import proofs.«01_k».proof.Proof.Gen.AdaRefIdeal.Run
public import Idealize.ShloMosaic.Lib.Claim

@[expose] public section

set_option maxRecDepth 16384

noncomputable section

open Idealize.ShloMosaic Idealize.SL.Sem

namespace Cert.AdaClaim

theorem frame_p : Cert.quiescent_Ada := fun m ρ _ => Cert.Ada.Gen.frame m ρ
theorem frame_pi : Cert.quiescent_AdaIdeal := fun m ρ _ => Cert.AdaIdeal.Gen.frame m ρ

/-- The reference has no counters at all; its arguments end unchanged by its run. -/
theorem frame_ri : Cert.quiescent_AdaRefIdeal := fun m ρ _ =>
  (θ_run Cert.AdaRefIdeal.defs _ _).mono
    (fun r h => ⟨fun c => (h c).2, Idealize.ShloMosaic.sem_eq_zero_of_no_sems (by decide) r.2⟩)
    (Cert.AdaRefIdeal.Value.run (F := Ideal) m ρ)

set_option maxHeartbeats 1600000 in
/-- The array the kernel writes is the reference's result. -/
theorem algebraic : Cert.algebraic_AdaIdeal_AdaRefIdeal := by
  pair_intro
  · run_from Cert.AdaIdeal.Gen.run_main m g
  · refine (θ_run Cert.AdaRefIdeal.defs _ _).mono (fun _ h c => ?_) (Cert.AdaRefIdeal.Value.run (F := Ideal) m' g')
    obtain ⟨h3, ha⟩ := h c
    refine ⟨h3.trans ?_, ha⟩
    obtain ⟨e0, e1, e2⟩ := hagree c
    rw [e0, e1, e2]
    exact (Cert.AdaIdeal.AdaValue.final3 m c).symm

end Cert.AdaClaim

end

end
-- ==== Proof.lean ====
module

public import proofs.«01_k».proof.Defs
public import proofs.«01_k».proof.Proof.FfnClaim
public import proofs.«01_k».proof.Proof.FrontClaim
public import proofs.«01_k».proof.Proof.MergeClaim
public import proofs.«01_k».proof.Proof.AdaClaim
public import proofs.«01_k».proof.Proof.Gen.Ssd.Frame
public import proofs.«01_k».proof.Proof.Gen.SsdIdeal.Frame

@[expose] public section

noncomputable section

namespace Cert.Proof

open Idealize.ShloMosaic Idealize.SL.Sem

theorem claim : Cert.Claim :=
  ⟨Cert.Ssd.Gen.facts, Cert.SsdIdeal.Gen.facts, Cert.Ffn.Gen.facts, Cert.FfnIdeal.Gen.facts, Cert.FfnRefIdeal.Gen.facts,
    Cert.Front.Gen.facts, Cert.FrontIdeal.Gen.facts, Cert.FrontRefIdeal.Gen.facts,
    Cert.Merge.Gen.facts, Cert.MergeIdeal.Gen.facts, Cert.MergeRefIdeal.Gen.facts,
    Cert.Ada.Gen.facts, Cert.AdaIdeal.Gen.facts, Cert.AdaRefIdeal.Gen.facts, Cert.MergeClaim.pre_facts,
    fun m ρ _ => Cert.Ssd.Gen.frame m ρ, fun m ρ _ => Cert.SsdIdeal.Gen.frame m ρ,
    Cert.FfnClaim.frame_p, Cert.FfnClaim.frame_pi, Cert.FfnClaim.frame_ri,
    Cert.FrontClaim.frame_p, Cert.FrontClaim.frame_pi, Cert.FrontClaim.frame_ri,
    Cert.MergeClaim.frame_p, Cert.MergeClaim.frame_pi, Cert.MergeClaim.frame_pi_finite,
    Cert.MergeClaim.frame_ri, Cert.MergeClaim.frame_ri_finite,
    Cert.AdaClaim.frame_p, Cert.AdaClaim.frame_pi, Cert.AdaClaim.frame_ri,
    trivial, trivial, Cert.FfnClaim.algebraic, trivial, Cert.FrontClaim.algebraic,
    trivial, Cert.MergeClaim.algebraic, trivial, Cert.AdaClaim.algebraic⟩

end Cert.Proof

end

end
